-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_encoder [hPre_finite_encoder : Cert.Pre_finite_encoder.Facts] (m : (ℓ : Loc Cert.KernelIdeal.nD Cert.KernelIdeal.τ Cert.KernelIdeal.sig) → Buf (Elt Ideal) ℓ) : Prop :=
  ∀ c : Dev Cert.KernelIdeal.nD,
    (Cert.Pre_finite_encoder.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_encoder [hPre_finite_encoder : Cert.Pre_finite_encoder.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_encoder.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_encoder [hKernelIdeal : Cert.KernelIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_encoder m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_encoder [hReferenceIdeal : Cert.ReferenceIdeal.Facts] [hPre_finite_encoder : Cert.Pre_finite_encoder.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_encoder m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_encoder [hKernelIdeal : Cert.KernelIdeal.Facts] [hReferenceIdeal : Cert.ReferenceIdeal.Facts] [hPre_finite_encoder : Cert.Pre_finite_encoder.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_encoder m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v95)) (v2 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v95) = v1 c
          ∧ r.2.mem ((c.tc : Thread Cert.KernelIdeal.nD Cert.KernelIdeal.τ).loc Cert.KernelIdeal.main_v96) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_encoder : Cert.Pre_finite_encoder.Facts),
    quiescent_Kernel (hKernel := hKernel)
    ∧ quiescent_KernelIdeal (hKernelIdeal := hKernelIdeal)
    ∧ quiescent_KernelIdeal_pre_finite_encoder (hKernelIdeal := hKernelIdeal) (hPre_finite_encoder := hPre_finite_encoder)
    ∧ quiescent_ReferenceIdeal (hReferenceIdeal := hReferenceIdeal)
    ∧ quiescent_ReferenceIdeal_pre_finite_encoder (hReferenceIdeal := hReferenceIdeal) (hPre_finite_encoder := hPre_finite_encoder)
    ∧ preserves_Kernel_KernelIdeal
    ∧ algebraic_KernelIdeal_ReferenceIdeal_pre_finite_encoder (hKernelIdeal := hKernelIdeal) (hReferenceIdeal := hReferenceIdeal) (hPre_finite_encoder := hPre_finite_encoder)
-- ==== Pre_finite_encoder.lean ====
abbrev S32x1x16384 : Shape := ⟨3, ![32, 1, 16384]⟩
abbrev S64x1x4 : Shape := ⟨3, ![64, 1, 4]⟩
abbrev S64 : Shape := ⟨1, ![64]⟩
abbrev S128x64x4 : Shape := ⟨3, ![128, 64, 4]⟩
abbrev S128 : Shape := ⟨1, ![128]⟩
abbrev S128x128x3 : Shape := ⟨3, ![128, 128, 3]⟩
abbrev S64x128x1 : Shape := ⟨3, ![64, 128, 1]⟩
abbrev S64x64x1 : Shape := ⟨3, ![64, 64, 1]⟩
abbrev S512x64 : Shape := ⟨2, ![512, 64]⟩
abbrev S128x64x3 : Shape := ⟨3, ![128, 64, 3]⟩
abbrev S1 : Shape := ⟨1, ![1]⟩
abbrev S_ : Shape := ⟨0, ![]⟩

class Facts : Prop where
  bcast_S_S32x1x16384 : S_.BroadcastsInDim S32x1x16384 (![] : Fin 0 → Fin S32x1x16384.rank)
  reducesTo_S32x1x16384_S_d0_1_2 : S32x1x16384.ReducesTo [0, 1, 2] S_
  h_S_ : 0 < S_.numel
  bcast_S_S64x1x4 : S_.BroadcastsInDim S64x1x4 (![] : Fin 0 → Fin S64x1x4.rank)
  reducesTo_S64x1x4_S_d0_1_2 : S64x1x4.ReducesTo [0, 1, 2] S_
  bcast_S_S64 : S_.BroadcastsInDim S64 (![] : Fin 0 → Fin S64.rank)
  reducesTo_S64_S_d0 : S64.ReducesTo [0] S_
  bcast_S_S128x64x4 : S_.BroadcastsInDim S128x64x4 (![] : Fin 0 → Fin S128x64x4.rank)
  reducesTo_S128x64x4_S_d0_1_2 : S128x64x4.ReducesTo [0, 1, 2] S_
  bcast_S_S128 : S_.BroadcastsInDim S128 (![] : Fin 0 → Fin S128.rank)
  reducesTo_S128_S_d0 : S128.ReducesTo [0] S_
  bcast_S_S128x128x3 : S_.BroadcastsInDim S128x128x3 (![] : Fin 0 → Fin S128x128x3.rank)
  reducesTo_S128x128x3_S_d0_1_2 : S128x128x3.ReducesTo [0, 1, 2] S_
  bcast_S_S64x128x1 : S_.BroadcastsInDim S64x128x1 (![] : Fin 0 → Fin S64x128x1.rank)
  reducesTo_S64x128x1_S_d0_1_2 : S64x128x1.ReducesTo [0, 1, 2] S_
  bcast_S_S64x64x1 : S_.BroadcastsInDim S64x64x1 (![] : Fin 0 → Fin S64x64x1.rank)
  reducesTo_S64x64x1_S_d0_1_2 : S64x64x1.ReducesTo [0, 1, 2] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg8 : FVec F S64 .f32) (main_arg9 : FVec F S64x64x1 .f32) (main_arg10 : FVec F S64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64 .f32 := Host.absf main_arg8
  let main_cst_14 : FVec F S_ .f32 := constant S_ .f32 0x7F800000#32
  let main_v33 : FVec F S64 .f32 := broadcastInDim S64 ![] bcast_S_S64 main_cst_14
  let main_v34 : IVec S64 1 := cmpf .olt main_v32 main_v33
  let main_c_15 : IVec S_ 1 := constantI S_ 1 1#1
  let main_v35 : IVec S_ 1 := (fun x v => Host.reduce IntOp.andi x v reducesTo_S64_S_d0 h_S_) main_v34 main_c_15
  let main_v36 : FVec F S64x64x1 .f32 := Host.absf main_arg9
  let main_cst_16 : FVec F S_ .f32 := constant S_ .f32 0x7F800000#32
  let main_v37 : FVec F S64x64x1 .f32 := broadcastInDim S64x64x1 ![] bcast_S_S64x64x1 main_cst_16
  let main_v38 : IVec S64x64x1 1 := cmpf .olt main_v36 main_v37
  let main_c_17 : IVec S_ 1 := constantI S_ 1 1#1
  let main_v39 : IVec S_ 1 := (fun x v => Host.reduce IntOp.andi x v reducesTo_S64x64x1_S_d0_1_2 h_S_) main_v38 main_c_17
  let main_v40 : FVec F S64 .f32 := Host.absf main_arg10
  let main_cst_18 : FVec F S_ .f32 := constant S_ .f32 0x7F800000#32
  let main_v41 : FVec F S64 .f32 := broadcastInDim S64 ![] bcast_S_S64 main_cst_18
  let main_v42 : IVec S64 1 := cmpf .olt main_v40 main_v41
  let main_c_19 : IVec S_ 1 := constantI S_ 1 1#1
  let main_v43 : IVec S_ 1 := (fun x v => Host.reduce IntOp.andi x v reducesTo_S64_S_d0 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S128 .f32) (main_arg5 : FVec F S128x128x3 .f32) (main_arg6 : FVec F S128 .f32) (main_arg7 : FVec F S64x128x1 .f32) (main_arg8 : FVec F S64 .f32) (main_arg9 : FVec F S64x64x1 .f32) (main_arg10 : FVec F S64 .f32) (main_v3 : IVec S_ 1) (main_v7 : IVec S_ 1) (main_v11 : IVec S_ 1) (main_v15 : IVec S_ 1) : IVec S_ 1 :=
  let main_v16 : FVec F S128 .f32 := Host.absf main_arg4
  let main_cst_6 : FVec F S_ .f32 := constant S_ .f32 0x7F800000#32
  let main_v17 : FVec F S128 .f32 := broadcastInDim S128 ![] bcast_S_S128 main_cst_6
  let main_v18 : IVec S128 1 := cmpf .olt main_v16 main_v17
  let main_c_7 : IVec S_ 1 := constantI S_ 1 1#1
  let main_v19 : IVec S_ 1 := (fun x v => Host.reduce IntOp.andi x v reducesTo_S128_S_d0 h_S_) main_v18 main_c_7
  let main_v20 : FVec F S128x128x3 .f32 := Host.absf main_arg5
  let main_cst_8 : FVec F S_ .f32 := constant S_ .f32 0x7F800000#32
  let main_v21 : FVec F S128x128x3 .f32 := broadcastInDim S128x128x3 ![] bcast_S_S128x128x3 main_cst_8
  let main_v22 : IVec S128x128x3 1 := cmpf .olt main_v20 main_v21
  let main_c_9 : IVec S_ 1 := constantI S_ 1 1#1
  let main_v23 : IVec S_ 1 := (fun x v => Host.reduce IntOp.andi x v reducesTo_S128x128x3_S_d0_1_2 h_S_) main_v22 main_c_9
  let main_v24 : FVec F S128 .f32 := Host.absf main_arg6
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : FVec F S64x128x1 .f32 := Host.absf main_arg7
  let main_cst_12 : FVec F S_ .f32 := constant S_ .f32 0x7F800000#32
  let main_v29 : FVec F S64x128x1 .f32 := broadcastInDim S64x128x1 ![] bcast_S_S64x128x1 main_cst_12
  let main_v30 : IVec S64x128x1 1 := cmpf .olt main_v28 main_v29
  let main_c_13 : IVec S_ 1 := constantI S_ 1 1#1
  let main_v31 : IVec S_ 1 := (fun x v => Host.reduce IntOp.andi x v reducesTo_S64x128x1_S_d0_1_2 h_S_) main_v30 main_c_13
  fn_part2 (F := F) main_arg8 main_arg9 main_arg10 main_v3 main_v7 main_v11 main_v15 main_v19 main_v23 main_v27 main_v31

def fn {F : FTy → Type} [FloatOps F] (main_arg0 : FVec F S32x1x16384 .f32) (main_arg1 : FVec F S64x1x4 .f32) (main_arg2 : FVec F S64 .f32) (main_arg3 : FVec F S128x64x4 .f32) (main_arg4 : FVec F S128 .f32) (main_arg5 : FVec F S128x128x3 .f32) (main_arg6 : FVec F S128 .f32) (main_arg7 : FVec F S64x128x1 .f32) (main_arg8 : FVec F S64 .f32) (main_arg9 : FVec F S64x64x1 .f32) (main_arg10 : FVec F S64 .f32) (main_arg11 : FVec F S512x64 .f32) (main_arg12 : FVec F S128x64x3 .f32) (main_arg13 : FVec F S128 .f32) (main_arg14 : FVec F S128x64x4 .f32) (main_arg15 : FVec F S64 .f32) (main_arg16 : FVec F S64x1x4 .f32) (main_arg17 : FVec F S1 .f32) : IVec S_ 1 :=
  let main_v0 : FVec F S32x1x16384 .f32 := Host.absf main_arg0
  let main_cst : FVec F S_ .f32 := constant S_ .f32 0x7F800000#32
  let main_v1 : FVec F S32x1x16384 .f32 := broadcastInDim S32x1x16384 ![] bcast_S_S32x1x16384 main_cst
  let main_v2 : IVec S32x1x16384 1 := cmpf .olt main_v0 main_v1
  let main_c : IVec S_ 1 := constantI S_ 1 1#1
  let main_v3 : IVec S_ 1 := (fun x v => Host.reduce IntOp.andi x v reducesTo_S32x1x16384_S_d0_1_2 h_S_) main_v2 main_c
  let main_v4 : FVec F S64x1x4 .f32 := Host.absf main_arg1
  let main_cst_0 : FVec F S_ .f32 := constant S_ .f32 0x7F800000#32
  let main_v5 : FVec F S64x1x4 .f32 := broadcastInDim S64x1x4 ![] bcast_S_S64x1x4 main_cst_0
  let main_v6 : IVec S64x1x4 1 := cmpf .olt main_v4 main_v5
  let main_c_1 : IVec S_ 1 := constantI S_ 1 1#1
  let main_v7 : IVec S_ 1 := (fun x v => Host.reduce IntOp.andi x v reducesTo_S64x1x4_S_d0_1_2 h_S_) main_v6 main_c_1
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S128x64x4 .f32 := Host.absf main_arg3
  let main_cst_4 : FVec F S_ .f32 := constant S_ .f32 0x7F800000#32
  let main_v13 : FVec F S128x64x4 .f32 := broadcastInDim S128x64x4 ![] bcast_S_S128x64x4 main_cst_4
  let main_v14 : IVec S128x64x4 1 := cmpf .olt main_v12 main_v13
  let main_c_5 : IVec S_ 1 := constantI S_ 1 1#1
  let main_v15 : IVec S_ 1 := (fun x v => Host.reduce IntOp.andi x v reducesTo_S128x64x4_S_d0_1_2 h_S_) main_v14 main_c_5
  fn_part1 (F := F) main_arg4 main_arg5 main_arg6 main_arg7 main_arg8 main_arg9 main_arg10 main_v3 main_v7 main_v11 main_v15
-- ==== Kernel.lean ====
abbrev S32x1x16384 : Shape := ⟨3, ![32, 1, 16384]⟩
abbrev S64x1x4 : Shape := ⟨3, ![64, 1, 4]⟩
abbrev S64 : Shape := ⟨1, ![64]⟩
abbrev S128x64x4 : Shape := ⟨3, ![128, 64, 4]⟩
abbrev S128 : Shape := ⟨1, ![128]⟩
abbrev S128x128x3 : Shape := ⟨3, ![128, 128, 3]⟩
abbrev S64x128x1 : Shape := ⟨3, ![64, 128, 1]⟩
abbrev S64x64x1 : Shape := ⟨3, ![64, 64, 1]⟩
abbrev S512x64 : Shape := ⟨2, ![512, 64]⟩
abbrev S128x64x3 : Shape := ⟨3, ![128, 64, 3]⟩
abbrev S1 : Shape := ⟨1, ![1]⟩
abbrev S64x4 : Shape := ⟨2, ![64, 4]⟩
abbrev S4x64 : Shape := ⟨2, ![4, 64]⟩
abbrev S_ : Shape := ⟨0, ![]⟩
abbrev S3x64 : Shape := ⟨2, ![3, 64]⟩
abbrev S5x64 : Shape := ⟨2, ![5, 64]⟩
abbrev S12x64 : Shape := ⟨2, ![12, 64]⟩
abbrev S12x128 : Shape := ⟨2, ![12, 128]⟩
abbrev S1x128 : Shape := ⟨2, ![1, 128]⟩
abbrev S4x64x128 : Shape := ⟨3, ![4, 64, 128]⟩
abbrev S256x128 : Shape := ⟨2, ![256, 128]⟩
abbrev S3x128x128 : Shape := ⟨3, ![3, 128, 128]⟩
abbrev S384x128 : Shape := ⟨2, ![384, 128]⟩
abbrev S64x128 : Shape := ⟨2, ![64, 128]⟩
abbrev S128x64 : Shape := ⟨2, ![128, 64]⟩
abbrev S1x64 : Shape := ⟨2, ![1, 64]⟩
abbrev S64x64 : Shape := ⟨2, ![64, 64]⟩
abbrev S64x512 : Shape := ⟨2, ![64, 512]⟩
abbrev S512 : Shape := ⟨1, ![512]⟩
abbrev S1x512 : Shape := ⟨2, ![1, 512]⟩
abbrev S3x64x128 : Shape := ⟨3, ![3, 64, 128]⟩
abbrev S192x128 : Shape := ⟨2, ![192, 128]⟩
abbrev S4x128x64 : Shape := ⟨3, ![4, 128, 64]⟩
abbrev S1x128x64 : Shape := ⟨3, ![1, 128, 64]⟩
abbrev S128x128 : Shape := ⟨2, ![128, 128]⟩
abbrev S256 : Shape := ⟨1, ![256]⟩
abbrev S256x1 : Shape := ⟨2, ![256, 1]⟩
abbrev S256x4 : Shape := ⟨2, ![256, 4]⟩
abbrev S1x4 : Shape := ⟨2, ![1, 4]⟩
abbrev S32x4096x4 : Shape := ⟨3, ![32, 4096, 4]⟩
abbrev S32x4x4096 : Shape := ⟨3, ![32, 4, 4096]⟩
abbrev S32x1x4096 : Shape := ⟨3, ![32, 1, 4096]⟩
abbrev S32x1x64 : Shape := ⟨3, ![32, 1, 64]⟩
abbrev S2x4x4096 : Shape := ⟨3, ![2, 4, 4096]⟩
abbrev S2x1x4096 : Shape := ⟨3, ![2, 1, 4096]⟩
abbrev S2x1x64 : Shape := ⟨3, ![2, 1, 64]⟩
abbrev S1x4x4096 : Shape := ⟨3, ![1, 4, 4096]⟩
abbrev S4x4096 : Shape := ⟨2, ![4, 4096]⟩
abbrev S4096x4 : Shape := ⟨2, ![4096, 4]⟩
abbrev S4095x4 : Shape := ⟨2, ![4095, 4]⟩
abbrev S4096x12 : Shape := ⟨2, ![4096, 12]⟩
abbrev S4096x128 : Shape := ⟨2, ![4096, 128]⟩
abbrev S4096x64 : Shape := ⟨2, ![4096, 64]⟩
abbrev S4095x64 : Shape := ⟨2, ![4095, 64]⟩
abbrev S4096x256 : Shape := ⟨2, ![4096, 256]⟩
abbrev S4095x128 : Shape := ⟨2, ![4095, 128]⟩
abbrev S4096x384 : Shape := ⟨2, ![4096, 384]⟩
abbrev S4096 : Shape := ⟨1, ![4096]⟩
abbrev S4096x1 : Shape := ⟨2, ![4096, 1]⟩
abbrev S4096x512 : Shape := ⟨2, ![4096, 512]⟩
abbrev S1x4096 : Shape := ⟨2, ![1, 4096]⟩
abbrev S1x1x4096 : Shape := ⟨3, ![1, 1, 4096]⟩
abbrev S1x1x64 : Shape := ⟨3, ![1, 1, 64]⟩
abbrev S4096x192 : Shape := ⟨2, ![4096, 192]⟩
abbrev S131072x1 : Shape := ⟨2, ![131072, 1]⟩

abbrev nBuf : Space → Nat
  | .hbm => 126
  | .vmem => 27
  | .smem => 0
  | _ => 0

abbrev bufTy : (tb : Table) → Fin (tcTables nBuf tb) → BufTy
  | .hbm, ⟨0, _⟩ => ⟨S32x1x16384, .f32⟩
  | .hbm, ⟨1, _⟩ => ⟨S64x1x4, .f32⟩
  | .hbm, ⟨2, _⟩ => ⟨S64, .f32⟩
  | .hbm, ⟨3, _⟩ => ⟨S128x64x4, .f32⟩
  | .hbm, ⟨4, _⟩ => ⟨S128, .f32⟩
  | .hbm, ⟨5, _⟩ => ⟨S128x128x3, .f32⟩
  | .hbm, ⟨6, _⟩ => ⟨S128, .f32⟩
  | .hbm, ⟨7, _⟩ => ⟨S64x128x1, .f32⟩
  | .hbm, ⟨8, _⟩ => ⟨S64, .f32⟩
  | .hbm, ⟨9, _⟩ => ⟨S64x64x1, .f32⟩
  | .hbm, ⟨10, _⟩ => ⟨S64, .f32⟩
  | .hbm, ⟨11, _⟩ => ⟨S512x64, .f32⟩
  | .hbm, ⟨12, _⟩ => ⟨S128x64x3, .f32⟩
  | .hbm, ⟨13, _⟩ => ⟨S128, .f32⟩
  | .hbm, ⟨14, _⟩ => ⟨S128x64x4, .f32⟩
  | .hbm, ⟨15, _⟩ => ⟨S64, .f32⟩
  | .hbm, ⟨16, _⟩ => ⟨S64x1x4, .f32⟩
  | .hbm, ⟨17, _⟩ => ⟨S1, .f32⟩
  | .hbm, ⟨18, _⟩ => ⟨S64x4, .f32⟩
  | .hbm, ⟨19, _⟩ => ⟨S4x64, .f32⟩
  | .hbm, ⟨20, _⟩ => ⟨S_, .f32⟩
  | .hbm, ⟨21, _⟩ => ⟨S3x64, .f32⟩
  | .hbm, ⟨22, _⟩ => ⟨S_, .f32⟩
  | .hbm, ⟨23, _⟩ => ⟨S5x64, .f32⟩
  | .hbm, ⟨24, _⟩ => ⟨S12x64, .f32⟩
  | .hbm, ⟨25, _⟩ => ⟨S12x64, .f32⟩
  | .hbm, ⟨26, _⟩ => ⟨S12x128, .f32⟩
  | .hbm, ⟨27, _⟩ => ⟨S128, .f32⟩
  | .hbm, ⟨28, _⟩ => ⟨S1x128, .f32⟩
  | .hbm, ⟨29, _⟩ => ⟨S4x64x128, .f32⟩
  | .hbm, ⟨30, _⟩ => ⟨S256x128, .f32⟩
  | .hbm, ⟨31, _⟩ => ⟨S1x128, .f32⟩
  | .hbm, ⟨32, _⟩ => ⟨S3x128x128, .f32⟩
  | .hbm, ⟨33, _⟩ => ⟨S384x128, .f32⟩
  | .hbm, ⟨34, _⟩ => ⟨S1x128, .f32⟩
  | .hbm, ⟨35, _⟩ => ⟨S64x128, .f32⟩
  | .hbm, ⟨36, _⟩ => ⟨S128x64, .f32⟩
  | .hbm, ⟨37, _⟩ => ⟨S1x64, .f32⟩
  | .hbm, ⟨38, _⟩ => ⟨S64x64, .f32⟩
  | .hbm, ⟨39, _⟩ => ⟨S64x64, .f32⟩
  | .hbm, ⟨40, _⟩ => ⟨S1x64, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S512x64, .f32⟩
  | .hbm, ⟨46, _⟩ => ⟨S_, .f32⟩
  | .hbm, ⟨47, _⟩ => ⟨S512, .f32⟩
  | .hbm, ⟨48, _⟩ => ⟨S1x512, .f32⟩
  | .hbm, ⟨49, _⟩ => ⟨S3x64x128, .f32⟩
  | .hbm, ⟨50, _⟩ => ⟨S192x128, .f32⟩
  | .hbm, ⟨51, _⟩ => ⟨S1x128, .f32⟩
  | .hbm, ⟨52, _⟩ => ⟨S4x128x64, .f32⟩
  | .hbm, ⟨53, _⟩ => ⟨S4x128x64, .f32⟩
  | .hbm, ⟨54, _⟩ => ⟨S_, .f32⟩
  | .hbm, ⟨55, _⟩ => ⟨S128x64, .f32⟩
  | .hbm, ⟨56, _⟩ => ⟨S1x128x64, .f32⟩
  | .hbm, ⟨57, _⟩ => ⟨S128x64, .f32⟩
  | .hbm, ⟨58, _⟩ => ⟨S128x128, .f32⟩
  | .hbm, ⟨59, _⟩ => ⟨S1x128x64, .f32⟩
  | .hbm, ⟨60, _⟩ => ⟨S128x64, .f32⟩
  | .hbm, ⟨61, _⟩ => ⟨S1x128x64, .f32⟩
  | .hbm, ⟨62, _⟩ => ⟨S128x64, .f32⟩
  | .hbm, ⟨63, _⟩ => ⟨S128x128, .f32⟩
  | .hbm, ⟨64, _⟩ => ⟨S1x128x64, .f32⟩
  | .hbm, ⟨65, _⟩ => ⟨S128x64, .f32⟩
  | .hbm, ⟨66, _⟩ => ⟨S128x128, .f32⟩
  | .hbm, ⟨67, _⟩ => ⟨S384x128, .f32⟩
  | .hbm, ⟨68, _⟩ => ⟨S128, .f32⟩
  | .hbm, ⟨69, _⟩ => ⟨S1x128, .f32⟩
  | .hbm, ⟨70, _⟩ => ⟨S64x1x4, .f32⟩
  | .hbm, ⟨71, _⟩ => ⟨S64x4, .f32⟩
  | .hbm, ⟨72, _⟩ => ⟨S4x64, .f32⟩
  | .hbm, ⟨73, _⟩ => ⟨S_, .f32⟩
  | .hbm, ⟨74, _⟩ => ⟨S64, .f32⟩
  | .hbm, ⟨75, _⟩ => ⟨S_, .f32⟩
  | .hbm, ⟨76, _⟩ => ⟨S128, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S64, .f32⟩
  | .hbm, ⟨81, _⟩ => ⟨S256, .f32⟩
  | .hbm, ⟨82, _⟩ => ⟨S1x64, .f32⟩
  | .hbm, ⟨83, _⟩ => ⟨S64, .f32⟩
  | .hbm, ⟨84, _⟩ => ⟨S1x64, .f32⟩
  | .hbm, ⟨85, _⟩ => ⟨S64, .f32⟩
  | .hbm, ⟨86, _⟩ => ⟨S256, .f32⟩
  | .hbm, ⟨87, _⟩ => ⟨S1x64, .f32⟩
  | .hbm, ⟨88, _⟩ => ⟨S64, .f32⟩
  | .hbm, ⟨89, _⟩ => ⟨S1x64, .f32⟩
  | .hbm, ⟨90, _⟩ => ⟨S64, .f32⟩
  | .hbm, ⟨91, _⟩ => ⟨S256, .f32⟩
  | .hbm, ⟨92, _⟩ => ⟨S1x64, .f32⟩
  | .hbm, ⟨93, _⟩ => ⟨S64, .f32⟩
  | .hbm, ⟨94, _⟩ => ⟨S1x64, .f32⟩
  | .hbm, ⟨95, _⟩ => ⟨S64, .f32⟩
  | .hbm, ⟨96, _⟩ => ⟨S256, .f32⟩
  | .hbm, ⟨97, _⟩ => ⟨S256x1, .f32⟩
  | .hbm, ⟨98, _⟩ => ⟨S256x1, .f32⟩
  | .hbm, ⟨99, _⟩ => ⟨S256x1, .f32⟩
  | .hbm, ⟨100, _⟩ => ⟨S256x1, .f32⟩
  | .hbm, ⟨101, _⟩ => ⟨S256x4, .f32⟩
  | .hbm, ⟨102, _⟩ => ⟨S_, .f32⟩
  | .hbm, ⟨103, _⟩ => ⟨S1x4, .f32⟩
  | .hbm, ⟨104, _⟩ => ⟨S32x4096x4, .f32⟩
  | .hbm, ⟨105, _⟩ => ⟨S32x4x4096, .f32⟩
  | .hbm, ⟨106, _⟩ => ⟨S32x4x4096, .bf16⟩
  | .hbm, ⟨107, _⟩ => ⟨S12x128, .bf16⟩
  | .hbm, ⟨108, _⟩ => ⟨S256x128, .bf16⟩
  | .hbm, ⟨109, _⟩ => ⟨S384x128, .bf16⟩
  | .hbm, ⟨110, _⟩ => ⟨S128x64, .bf16⟩
  | .hbm, ⟨111, _⟩ => ⟨S64x64, .bf16⟩
  | .hbm, ⟨112, _⟩ => ⟨S512x64, .bf16⟩
  | .hbm, ⟨113, _⟩ => ⟨S192x128, .bf16⟩
  | .hbm, ⟨114, _⟩ => ⟨S384x128, .bf16⟩
  | .hbm, ⟨115, _⟩ => ⟨S256x4, .bf16⟩
  | .hbm, ⟨116, _⟩ => ⟨S32x4x4096, .f32⟩
  | .hbm, ⟨117, _⟩ => ⟨S32x1x4096, .i32⟩
  | .hbm, ⟨118, _⟩ => ⟨S32x1x64, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S32x4096x4, .f32⟩
  | .hbm, ⟨124, _⟩ => ⟨S32x1x16384, .f32⟩
  | .hbm, ⟨125, _⟩ => ⟨S131072x1, .i32⟩
  | .local _ .vmem, ⟨0, _⟩ => ⟨S2x4x4096, .bf16⟩
  | .local _ .vmem, ⟨1, _⟩ => ⟨S2x4x4096, .bf16⟩
  | .local _ .vmem, ⟨2, _⟩ => ⟨S12x128, .bf16⟩
  | .local _ .vmem, ⟨3, _⟩ => ⟨S1x128, .f32⟩
  | .local _ .vmem, ⟨4, _⟩ => ⟨S256x128, .bf16⟩
  | .local _ .vmem, ⟨5, _⟩ => ⟨S1x128, .f32⟩
  | .local _ .vmem, ⟨6, _⟩ => ⟨S384x128, .bf16⟩
  | .local _ .vmem, ⟨7, _⟩ => ⟨S1x128, .f32⟩
  | .local _ .vmem, ⟨8, _⟩ => ⟨S128x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S64x512, .f32⟩
  | .local _ .vmem, ⟨13, _⟩ => ⟨S1x512, .f32⟩
  | .local _ .vmem, ⟨14, _⟩ => ⟨S512x64, .bf16⟩
  | .local _ .vmem, ⟨15, _⟩ => ⟨S192x128, .bf16⟩
  | .local _ .vmem, ⟨16, _⟩ => ⟨S1x128, .f32⟩
  | .local _ .vmem, ⟨17, _⟩ => ⟨S384x128, .bf16⟩
  | .local _ .vmem, ⟨18, _⟩ => ⟨S1x128, .f32⟩
  | .local _ .vmem, ⟨19, _⟩ => ⟨S256x4, .bf16⟩
  | .local _ .vmem, ⟨20, _⟩ => ⟨S1x4, .f32⟩
  | .local _ .vmem, ⟨21, _⟩ => ⟨S2x4x4096, .f32⟩
  | .local _ .vmem, ⟨22, _⟩ => ⟨S2x4x4096, .f32⟩
  | .local _ .vmem, ⟨23, _⟩ => ⟨S2x1x4096, .i32⟩
  | .local _ .vmem, ⟨24, _⟩ => ⟨S2x1x4096, .i32⟩
  | .local _ .vmem, ⟨25, _⟩ => ⟨S2x1x64, .f32⟩
  | .local _ .vmem, ⟨26, _⟩ => ⟨S2x1x64, .f32⟩
  | _, _ => ⟨S32x1x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_4 : Ref sig .tc := ⟨.hbm, 73, rfl⟩
abbrev main_v50 : Ref sig .tc := ⟨.hbm, 74, rfl⟩
abbrev main_cst_5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91_0 : Ref sig .tc := ⟨.hbm, 116, rfl⟩
abbrev main_v91_1 : Ref sig .tc := ⟨.hbm, 117, rfl⟩
abbrev main_v91_2 : Ref sig .tc := ⟨.hbm, 118, rfl⟩
abbrev main_cst_6 : Ref sig .tc := ⟨.hbm, 119, rfl⟩
abbrev main_v92 : Ref sig .tc := ⟨.hbm, 120, rfl⟩
abbrev main_cst_7 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22
abbrev cc0_sem21_0 : DmaSem sig := 23
abbrev cc0_sem21_1 : DmaSem sig := 24
abbrev cc0_sem22_0 : DmaSem sig := 25
abbrev cc0_sem22_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S192x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S384x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x4 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2x4x4096 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x1x4096 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2x1x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S32x1x16384 : Shape := ⟨3, ![32, 1, 16384]⟩
abbrev S64x1x4 : Shape := ⟨3, ![64, 1, 4]⟩
abbrev S64 : Shape := ⟨1, ![64]⟩
abbrev S128x64x4 : Shape := ⟨3, ![128, 64, 4]⟩
abbrev S128 : Shape := ⟨1, ![128]⟩
abbrev S128x128x3 : Shape := ⟨3, ![128, 128, 3]⟩
abbrev S64x128x1 : Shape := ⟨3, ![64, 128, 1]⟩
abbrev S64x64x1 : Shape := ⟨3, ![64, 64, 1]⟩
abbrev S512x64 : Shape := ⟨2, ![512, 64]⟩
abbrev S128x64x3 : Shape := ⟨3, ![128, 64, 3]⟩
abbrev S1 : Shape := ⟨1, ![1]⟩
abbrev S_ : Shape := ⟨0, ![]⟩
abbrev S32x1x16386 : Shape := ⟨3, ![32, 1, 16386]⟩
abbrev S32x1x8192 : Shape := ⟨3, ![32, 1, 8192]⟩
abbrev S64x1x1 : Shape := ⟨3, ![64, 1, 1]⟩
abbrev S64x1 : Shape := ⟨2, ![64, 1]⟩
abbrev S32x8192x64 : Shape := ⟨3, ![32, 8192, 64]⟩
abbrev S32x64x8192 : Shape := ⟨3, ![32, 64, 8192]⟩
abbrev S1x64x1 : Shape := ⟨3, ![1, 64, 1]⟩
abbrev S32x64x8194 : Shape := ⟨3, ![32, 64, 8194]⟩
abbrev S32x64x4096 : Shape := ⟨3, ![32, 64, 4096]⟩
abbrev S128x64x1 : Shape := ⟨3, ![128, 64, 1]⟩
abbrev S128x64 : Shape := ⟨2, ![128, 64]⟩
abbrev S32x4096x128 : Shape := ⟨3, ![32, 4096, 128]⟩
abbrev S32x128x4096 : Shape := ⟨3, ![32, 128, 4096]⟩
abbrev S1x128x1 : Shape := ⟨3, ![1, 128, 1]⟩
abbrev S32x128x4098 : Shape := ⟨3, ![32, 128, 4098]⟩
abbrev S128x128x1 : Shape := ⟨3, ![128, 128, 1]⟩
abbrev S128x128 : Shape := ⟨2, ![128, 128]⟩
abbrev S64x128 : Shape := ⟨2, ![64, 128]⟩
abbrev S32x4096x64 : Shape := ⟨3, ![32, 4096, 64]⟩
abbrev S64x64 : Shape := ⟨2, ![64, 64]⟩
abbrev S131072x64 : Shape := ⟨2, ![131072, 64]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩
abbrev S64x512 : Shape := ⟨2, ![64, 512]⟩
abbrev S1x1 : Shape := ⟨2, ![1, 1]⟩
abbrev S32x64x4098 : Shape := ⟨3, ![32, 64, 4098]⟩
abbrev S64x128x4 : Shape := ⟨3, ![64, 128, 4]⟩
abbrev S32x128x8195 : Shape := ⟨3, ![32, 128, 8195]⟩
abbrev S32x128x8192 : Shape := ⟨3, ![32, 128, 8192]⟩
abbrev S1x64x4 : Shape := ⟨3, ![1, 64, 4]⟩
abbrev S32x64x16387 : Shape := ⟨3, ![32, 64, 16387]⟩
abbrev S32x64x16384 : Shape := ⟨3, ![32, 64, 16384]⟩
abbrev S1x64 : Shape := ⟨2, ![1, 64]⟩
abbrev S32x16384x1 : Shape := ⟨3, ![32, 16384, 1]⟩
abbrev S1x1x1 : Shape := ⟨3, ![1, 1, 1]⟩

abbrev nBuf : Space → Nat
  | .hbm => 260
  | .vmem => 0
  | .smem => 0
  | _ => 0

abbrev hbmTy0_0 (i : Nat) : BufTy := match i % 128 with
  | 0 => ⟨S32x1x16384, .f32⟩
  | 1 => ⟨S64x1x4, .f32⟩
  | 2 => ⟨S64, .f32⟩
  | 3 => ⟨S128x64x4, .f32⟩
  | 4 => ⟨S128, .f32⟩
  | 5 => ⟨S128x128x3, .f32⟩
  | 6 => ⟨S128, .f32⟩
  | 7 => ⟨S64x128x1, .f32⟩
  | 8 => ⟨S64, .f32⟩
  | 9 => ⟨S64x64x1, .f32⟩
  | 10 => ⟨S64, .f32⟩
  | 11 => ⟨S512x64, .f32⟩
  | 12 => ⟨S128x64x3, .f32⟩
  | 13 => ⟨S128, .f32⟩
  | 14 => ⟨S128x64x4, .f32⟩
  | 15 => ⟨S64, .f32⟩
  | 16 => ⟨S64x1x4, .f32⟩
  | 17 => ⟨S1, .f32⟩
  | 18 => ⟨S_, .f32⟩
  | 19 => ⟨S32x1x16386, .f32⟩
  | 20 => ⟨S32x1x8192, .f32⟩
  | 21 => ⟨S64x1x1, .f32⟩
  | 22 => ⟨S64x1, .f32⟩
  | 23 => ⟨S32x8192x64, .f32⟩
  | 24 => ⟨S32x1x8192, .f32⟩
  | 25 => ⟨S64x1x1, .f32⟩
  | 26 => ⟨S64x1, .f32⟩
  | 27 => ⟨S32x8192x64, .f32⟩
  | 28 => ⟨S32x1x8192, .f32⟩
  | 29 => ⟨S64x1x1, .f32⟩
  | 30 => ⟨S64x1, .f32⟩
  | 31 => ⟨S32x8192x64, .f32⟩
  | 32 => ⟨S32x1x8192, .f32⟩
  | 33 => ⟨S64x1x1, .f32⟩
  | 34 => ⟨S64x1, .f32⟩
  | 35 => ⟨S32x8192x64, .f32⟩
  | 36 => ⟨S32x8192x64, .f32⟩
  | 37 => ⟨S32x8192x64, .f32⟩
  | 38 => ⟨S32x8192x64, .f32⟩
  | 39 => ⟨S32x64x8192, .f32⟩
  | 40 => ⟨S1x64x1, .f32⟩
  | 41 => ⟨S32x64x8192, .f32⟩
  | 42 => ⟨S32x64x8192, .f32⟩
  | 43 => ⟨S_, .f32⟩
  | 44 => ⟨S32x64x8192, .f32⟩
  | 45 => ⟨S32x64x8192, .f32⟩
  | 46 => ⟨S_, .f32⟩
  | 47 => ⟨S32x64x8194, .f32⟩
  | 48 => ⟨S32x64x4096, .f32⟩
  | 49 => ⟨S128x64x1, .f32⟩
  | 50 => ⟨S128x64, .f32⟩
  | 51 => ⟨S32x4096x128, .f32⟩
  | 52 => ⟨S32x64x4096, .f32⟩
  | 53 => ⟨S128x64x1, .f32⟩
  | 54 => ⟨S128x64, .f32⟩
  | 55 => ⟨S32x4096x128, .f32⟩
  | 56 => ⟨S32x64x4096, .f32⟩
  | 57 => ⟨S128x64x1, .f32⟩
  | 58 => ⟨S128x64, .f32⟩
  | 59 => ⟨S32x4096x128, .f32⟩
  | 60 => ⟨S32x64x4096, .f32⟩
  | 61 => ⟨S128x64x1, .f32⟩
  | 62 => ⟨S128x64, .f32⟩
  | 63 => ⟨S32x4096x128, .f32⟩
  | 64 => ⟨S32x4096x128, .f32⟩
  | 65 => ⟨S32x4096x128, .f32⟩
  | 66 => ⟨S32x4096x128, .f32⟩
  | 67 => ⟨S32x128x4096, .f32⟩
  | 68 => ⟨S1x128x1, .f32⟩
  | 69 => ⟨S32x128x4096, .f32⟩
  | 70 => ⟨S32x128x4096, .f32⟩
  | 71 => ⟨S_, .f32⟩
  | 72 => ⟨S32x128x4096, .f32⟩
  | 73 => ⟨S32x128x4096, .f32⟩
  | 74 => ⟨S_, .f32⟩
  | 75 => ⟨S32x128x4098, .f32⟩
  | 76 => ⟨S32x128x4096, .f32⟩
  | 77 => ⟨S128x128x1, .f32⟩
  | 78 => ⟨S128x128, .f32⟩
  | 79 => ⟨S32x4096x128, .f32⟩
  | 80 => ⟨S32x128x4096, .f32⟩
  | 81 => ⟨S128x128x1, .f32⟩
  | 82 => ⟨S128x128, .f32⟩
  | 83 => ⟨S32x4096x128, .f32⟩
  | 84 => ⟨S32x128x4096, .f32⟩
  | 85 => ⟨S128x128x1, .f32⟩
  | 86 => ⟨S128x128, .f32⟩
  | 87 => ⟨S32x4096x128, .f32⟩
  | 88 => ⟨S32x4096x128, .f32⟩
  | 89 => ⟨S32x4096x128, .f32⟩
  | 90 => ⟨S32x128x4096, .f32⟩
  | 91 => ⟨S1x128x1, .f32⟩
  | 92 => ⟨S32x128x4096, .f32⟩
  | 93 => ⟨S32x128x4096, .f32⟩
  | 94 => ⟨S_, .f32⟩
  | 95 => ⟨S32x128x4096, .f32⟩
  | 96 => ⟨S32x128x4096, .f32⟩
  | 97 => ⟨S_, .f32⟩
  | 98 => ⟨S32x128x4096, .f32⟩
  | 99 => ⟨S64x128, .f32⟩
  | 100 => ⟨S32x4096x64, .f32⟩
  | 101 => ⟨S32x64x4096, .f32⟩
  | 102 => ⟨S1x64x1, .f32⟩
  | 103 => ⟨S32x64x4096, .f32⟩
  | 104 => ⟨S32x64x4096, .f32⟩
  | 105 => ⟨S_, .f32⟩
  | 106 => ⟨S32x64x4096, .f32⟩
  | 107 => ⟨S64x64, .f32⟩
  | 108 => ⟨S32x4096x64, .f32⟩
  | 109 => ⟨S32x64x4096, .f32⟩
  | 110 => ⟨S1x64x1, .f32⟩
  | 111 => ⟨S32x64x4096, .f32⟩
  | 112 => ⟨S32x64x4096, .f32⟩
  | 113 => ⟨S32x4096x64, .f32⟩
  | 114 => ⟨S131072x64, .f32⟩
  | 115 => ⟨S131072x64, .f32⟩
  | 116 => ⟨S_, .f32⟩
  | 117 => ⟨S131072, .f32⟩
  | 118 => ⟨S131072x1, .f32⟩
  | 119 => ⟨S512x64, .f32⟩
  | 120 => ⟨S_, .f32⟩
  | 121 => ⟨S512, .f32⟩
  | 122 => ⟨S1x512, .f32⟩
  | 123 => ⟨S131072x512, .f32⟩
  | 124 => ⟨S131072x512, .f32⟩
  | 125 => ⟨S131072x512, .f32⟩
  | 126 => ⟨S64x512, .f32⟩
  | 127 => ⟨S131072x512, .f32⟩
  | _ => ⟨S32x1x16384, .f32⟩

abbrev hbmTy0_1 (i : Nat) : BufTy := match i % 128 with
  | 0 => ⟨S_, .f32⟩
  | 1 => ⟨S131072x512, .f32⟩
  | 2 => ⟨S131072x512, .f32⟩
  | 3 => ⟨S131072x512, .f32⟩
  | 4 => ⟨S131072x512, .i32⟩
  | 5 => ⟨S_, .f32⟩
  | 6 => ⟨S_, .i32⟩
  | 7 => ⟨S131072, .f32⟩
  | 8 => ⟨S131072, .i32⟩
  | 9 => ⟨S_, .i32⟩
  | 10 => ⟨S131072, .i32⟩
  | 11 => ⟨S131072, .i1⟩
  | 12 => ⟨S_, .i32⟩
  | 13 => ⟨S131072, .i32⟩
  | 14 => ⟨S131072, .i32⟩
  | 15 => ⟨S131072, .i32⟩
  | 16 => ⟨S131072x1, .i32⟩
  | 17 => ⟨S1, .i32⟩
  | 18 => ⟨S_, .i32⟩
  | 19 => ⟨S131072x1, .i32⟩
  | 20 => ⟨S131072x1, .i1⟩
  | 21 => ⟨S1x1, .i32⟩
  | 22 => ⟨S131072x1, .i32⟩
  | 23 => ⟨S131072x1, .i1⟩
  | 24 => ⟨S131072x1, .i1⟩
  | 25 => ⟨S_, .i1⟩
  | 26 => ⟨S131072, .i1⟩
  | 27 => ⟨S131072x64, .f32⟩
  | 28 => ⟨S131072x64, .i1⟩
  | 29 => ⟨S_, .f32⟩
  | 30 => ⟨S131072x64, .f32⟩
  | 31 => ⟨S131072x64, .f32⟩
  | 32 => ⟨S32x4096x64, .f32⟩
  | 33 => ⟨S32x4096x64, .f32⟩
  | 34 => ⟨S32x4096x64, .f32⟩
  | 35 => ⟨S_, .f32⟩
  | 36 => ⟨S_, .f32⟩
  | 37 => ⟨S_, .f32⟩
  | 38 => ⟨S_, .f32⟩
  | 39 => ⟨S32x4096x64, .f32⟩
  | 40 => ⟨S32x4096x64, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S32x4096x64, .f32⟩
  | 49 => ⟨S32x4096x64, .f32⟩
  | 50 => ⟨S32x64x4096, .f32⟩
  | 51 => ⟨S_, .f32⟩
  | 52 => ⟨S32x64x4098, .f32⟩
  | 53 => ⟨S32x64x4096, .f32⟩
  | 54 => ⟨S128x64x1, .f32⟩
  | 55 => ⟨S128x64, .f32⟩
  | 56 => ⟨S32x4096x128, .f32⟩
  | 57 => ⟨S32x64x4096, .f32⟩
  | 58 => ⟨S128x64x1, .f32⟩
  | 59 => ⟨S128x64, .f32⟩
  | 60 => ⟨S32x4096x128, .f32⟩
  | 61 => ⟨S32x64x4096, .f32⟩
  | 62 => ⟨S128x64x1, .f32⟩
  | 63 => ⟨S128x64, .f32⟩
  | 64 => ⟨S32x4096x128, .f32⟩
  | 65 => ⟨S32x4096x128, .f32⟩
  | 66 => ⟨S32x4096x128, .f32⟩
  | 67 => ⟨S32x128x4096, .f32⟩
  | 68 => ⟨S1x128x1, .f32⟩
  | 69 => ⟨S32x128x4096, .f32⟩
  | 70 => ⟨S32x128x4096, .f32⟩
  | 71 => ⟨S_, .f32⟩
  | 72 => ⟨S32x128x4096, .f32⟩
  | 73 => ⟨S32x128x4096, .f32⟩
  | 74 => ⟨S128x64x4, .f32⟩
  | 75 => ⟨S64x128x4, .f32⟩
  | 76 => ⟨S_, .f32⟩
  | 77 => ⟨S32x128x8195, .f32⟩
  | 78 => ⟨S32x128x8192, .f32⟩
  | 79 => ⟨S64x128x1, .f32⟩
  | 80 => ⟨S64x128, .f32⟩
  | 81 => ⟨S32x8192x64, .f32⟩
  | 82 => ⟨S32x128x8192, .f32⟩
  | 83 => ⟨S64x128x1, .f32⟩
  | 84 => ⟨S64x128, .f32⟩
  | 85 => ⟨S32x8192x64, .f32⟩
  | 86 => ⟨S32x128x8192, .f32⟩
  | 87 => ⟨S64x128x1, .f32⟩
  | 88 => ⟨S64x128, .f32⟩
  | 89 => ⟨S32x8192x64, .f32⟩
  | 90 => ⟨S32x128x8192, .f32⟩
  | 91 => ⟨S64x128x1, .f32⟩
  | 92 => ⟨S64x128, .f32⟩
  | 93 => ⟨S32x8192x64, .f32⟩
  | 94 => ⟨S32x8192x64, .f32⟩
  | 95 => ⟨S32x8192x64, .f32⟩
  | 96 => ⟨S32x8192x64, .f32⟩
  | 97 => ⟨S32x64x8192, .f32⟩
  | 98 => ⟨S1x64x1, .f32⟩
  | 99 => ⟨S32x64x8192, .f32⟩
  | 100 => ⟨S32x64x8192, .f32⟩
  | 101 => ⟨S_, .f32⟩
  | 102 => ⟨S32x64x8192, .f32⟩
  | 103 => ⟨S32x64x8192, .f32⟩
  | 104 => ⟨S64x1x4, .f32⟩
  | 105 => ⟨S1x64x4, .f32⟩
  | 106 => ⟨S_, .f32⟩
  | 107 => ⟨S32x64x16387, .f32⟩
  | 108 => ⟨S32x64x16384, .f32⟩
  | 109 => ⟨S1x64x1, .f32⟩
  | 110 => ⟨S1x64, .f32⟩
  | 111 => ⟨S32x16384x1, .f32⟩
  | 112 => ⟨S32x64x16384, .f32⟩
  | 113 => ⟨S1x64x1, .f32⟩
  | 114 => ⟨S1x64, .f32⟩
  | 115 => ⟨S32x16384x1, .f32⟩
  | 116 => ⟨S32x64x16384, .f32⟩
  | 117 => ⟨S1x64x1, .f32⟩
  | 118 => ⟨S1x64, .f32⟩
  | 119 => ⟨S32x16384x1, .f32⟩
  | 120 => ⟨S32x64x16384, .f32⟩
  | 121 => ⟨S1x64x1, .f32⟩
  | 122 => ⟨S1x64, .f32⟩
  | 123 => ⟨S32x16384x1, .f32⟩
  | 124 => ⟨S32x16384x1, .f32⟩
  | 125 => ⟨S32x16384x1, .f32⟩
  | 126 => ⟨S32x16384x1, .f32⟩
  | 127 => ⟨S32x1x16384, .f32⟩
  | _ => ⟨S32x1x16384, .f32⟩

abbrev hbmTy0_2 (i : Nat) : BufTy := match i % 128 with
  | 0 => ⟨S1x1x1, .f32⟩
  | 1 => ⟨S32x1x16384, .f32⟩
  | 2 => ⟨S32x1x16384, .f32⟩
  | 3 => ⟨S131072x1, .i32⟩
  | _ => ⟨S32x1x16384, .f32⟩

abbrev hbmTy (i : Nat) : BufTy := match i / 128 with
  | 0 => hbmTy0_0 i
  | 1 => hbmTy0_1 i
  | 2 => hbmTy0_2 i
  | _ => ⟨S32x1x16384, .f32⟩

abbrev bufTy : (tb : Table) → Fin (tcTables nBuf tb) → BufTy
  | .hbm, ⟨i, _⟩ => hbmTy i
  | _, _ => ⟨S32x1x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_2 : Ref sig .tc := ⟨.hbm, 71, rfl⟩
abbrev main_v50 : Ref sig .tc := ⟨.hbm, 72, rfl⟩
abbrev main_v51 : Ref sig .tc := ⟨.hbm, 73, rfl⟩
abbrev main_cst_3 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_4 : Ref sig .tc := ⟨.hbm, 94, rfl⟩
abbrev main_v71 : Ref sig .tc := ⟨.hbm, 95, rfl⟩
abbrev main_v72 : Ref sig .tc := ⟨.hbm, 96, rfl⟩
abbrev main_cst_5 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_6 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_7 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_8 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_9 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call0_v0 : Ref sig .tc := ⟨.hbm, 132, rfl⟩
abbrev main_call0_cst : Ref sig .tc := ⟨.hbm, 133, rfl⟩
abbrev main_call0_c : Ref sig .tc := ⟨.hbm, 134, rfl⟩
abbrev main_call0_v1_0 : Ref sig .tc := ⟨.hbm, 135, rfl⟩
abbrev main_v103 : Ref sig .tc := ⟨.hbm, 136, rfl⟩
abbrev main_call1_c : Ref sig .tc := ⟨.hbm, 137, rfl⟩
abbrev main_call1_v0 : Ref sig .tc := ⟨.hbm, 138, rfl⟩
abbrev main_call1_v1 : Ref sig .tc := ⟨.hbm, 139, rfl⟩
abbrev main_call1_c_0 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_call1_v5 : Ref sig .tc := ⟨.hbm, 144, rfl⟩
abbrev main_call1_c_1 : Ref sig .tc := ⟨.hbm, 145, rfl⟩
abbrev main_call1_c_2 : Ref sig .tc := ⟨.hbm, 146, rfl⟩
abbrev main_call1_v6 : Ref sig .tc := ⟨.hbm, 147, rfl⟩
abbrev main_call1_v7 : Ref sig .tc := ⟨.hbm, 148, rfl⟩
abbrev main_call1_v8 : Ref sig .tc := ⟨.hbm, 149, rfl⟩
abbrev main_call1_v9 : Ref sig .tc := ⟨.hbm, 150, rfl⟩
abbrev main_call1_v10 : Ref sig .tc := ⟨.hbm, 151, rfl⟩
abbrev main_call1_v11 : Ref sig .tc := ⟨.hbm, 152, rfl⟩
abbrev main_call1_c_3 : Ref sig .tc := ⟨.hbm, 153, rfl⟩
abbrev main_call1_v12 : Ref sig .tc := ⟨.hbm, 154, rfl⟩
abbrev main_call1_v13 : Ref sig .tc := ⟨.hbm, 155, rfl⟩
abbrev main_call1_v14 : Ref sig .tc := ⟨.hbm, 156, rfl⟩
abbrev main_call1_cst : Ref sig .tc := ⟨.hbm, 157, rfl⟩
abbrev main_call1_v15 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_10 : Ref sig .tc := ⟨.hbm, 163, rfl⟩
abbrev main_v108 : Ref sig .tc := ⟨.hbm, 164, rfl⟩
abbrev main_cst_11 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_12 : Ref sig .tc := ⟨.hbm, 169, rfl⟩
abbrev main_v112 : Ref sig .tc := ⟨.hbm, 170, rfl⟩
abbrev main_cst_13 : Ref sig .tc := ⟨.hbm, 171, rfl⟩
abbrev main_v113 : Ref sig .tc := ⟨.hbm, 172, rfl⟩
abbrev main_cst_14 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_15 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_cst_16 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_cst_17 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_cst_18 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_cst_19 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩

abbrev nD : Nat := 1
abbrev τ : Topo := Topo.v7x

variable {F : FTy → Type} [FloatOps F]
-- ==== Proof.FrameKernelIdeal.lean ====
/- The frame of `KernelIdeal`: `main` around its one region, the arrays' contents there (`V`), each window's block at a
   grid point (`iblk`), what each output window's buffer holds after the body (`out0_20`, `out0_21`, `out0_22`), the
   body's triple (`sound_kernel`), the proof data (`dats`), the body obligation, the run (`run_main`) and `frame`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 322000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg17`: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
/-- No host operation after the region writes `main_arg11`: it ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c
/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c
/-- No host operation after the region writes `main_arg13`: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c
/-- No host operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c
/-- No host operation after the region writes `main_arg15`: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c
/-- No host operation after the region writes `main_arg16`: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_main_arg16 m c
/-- No host operation after the region writes `main_arg17`: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_main_arg17 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c)),
      (((h c).2 main_arg11 (Pipeline.mem_restRefs_of main_arg11 (by decide) (by decide))).trans (W_main_arg11 m dats c)),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c)),
      (((h c).2 main_arg16 (Pipeline.mem_restRefs_of main_arg16 (by decide) (by decide))).trans (W_main_arg16 m dats c)),
      (((h c).2 main_arg17 (Pipeline.mem_restRefs_of main_arg17 (by decide) (by decide))).trans (W_main_arg17 m dats c))⟩) h

/-! ## The body's accesses -/

abbrev r0_0 : Rect S2x4x4096 := Rect.unit (s := S2x4x4096) ![0, 0, 0] S1x4x4096.size inb_S2x4x4096_S1x4x4096_0_0_0
abbrev r0_1 : Rect S12x128 := Rect.unit (s := S12x128) ![0, 0] S12x128.size inb_S12x128_S12x128_0_0
abbrev r0_2 : Rect S1x128 := Rect.unit (s := S1x128) ![0, 0] S1x128.size inb_S1x128_S1x128_0_0
abbrev r0_3 : Rect S256x128 := Rect.unit (s := S256x128) ![0, 0] S256x128.size inb_S256x128_S256x128_0_0
abbrev r0_4 : Rect S384x128 := Rect.unit (s := S384x128) ![0, 0] S384x128.size inb_S384x128_S384x128_0_0
abbrev r0_5 : Rect S128x64 := Rect.unit (s := S128x64) ![0, 0] S128x64.size inb_S128x64_S128x64_0_0
abbrev r0_6 : Rect S1x64 := Rect.unit (s := S1x64) ![0, 0] S1x64.size inb_S1x64_S1x64_0_0
abbrev r0_7 : Rect S64x64 := Rect.unit (s := S64x64) ![0, 0] S64x64.size inb_S64x64_S64x64_0_0
abbrev r0_8 : Rect S1x512 := Rect.unit (s := S1x512) ![0, 0] S1x512.size inb_S1x512_S1x512_0_0
abbrev r0_9 : Rect S64x512 := Rect.unit (s := S64x512) ![0, 0] S64x512.size inb_S64x512_S64x512_0_0
abbrev r0_10 : Rect S512x64 := Rect.unit (s := S512x64) ![0, 0] S512x64.size inb_S512x64_S512x64_0_0
abbrev r0_11 : Rect S2x1x4096 := Rect.unit (s := S2x1x4096) ![0, 0, 0] S1x1x4096.size inb_S2x1x4096_S1x1x4096_0_0_0
abbrev r0_12 : Rect S2x1x64 := Rect.unit (s := S2x1x64) ![0, 0, 0] S1x1x64.size inb_S2x1x64_S1x1x64_0_0_0
abbrev r0_13 : Rect S192x128 := Rect.unit (s := S192x128) ![0, 0] S192x128.size inb_S192x128_S192x128_0_0
abbrev r0_14 : Rect S256x4 := Rect.unit (s := S256x4) ![0, 0] S256x4.size inb_S256x4_S256x4_0_0
abbrev r0_15 : Rect S1x4 := Rect.unit (s := S1x4) ![0, 0] S1x4.size inb_S1x4_S1x4_0_0
abbrev r0_16 : Rect S2x4x4096 := Rect.unit (s := S2x4x4096) ![1, 0, 0] S1x4x4096.size inb_S2x4x4096_S1x4x4096_1_0_0
abbrev r0_17 : Rect S2x1x4096 := Rect.unit (s := S2x1x4096) ![1, 0, 0] S1x1x4096.size inb_S2x1x4096_S1x1x4096_1_0_0
abbrev r0_18 : Rect S2x1x64 := Rect.unit (s := S2x1x64) ![1, 0, 0] S1x1x64.size inb_S2x1x64_S1x1x64_1_0_0

/-! ## What the body leaves in each output window's buffer -/

/-! ### Values of the body that the stores' payloads, spelt out, would write more than once

    Each is a vector the body binds (often a part call's result), stated over the input windows' blocks and
    numbered on from the skeleton's payload functions (`k0_pay23` …, after `k0_pay22`), so that
    `out0_W` and the values after it name it instead of spelling it out (`unfold_out out0_W` opens a canon
    with them, `unfold_payloads` opens them with the payloads); the comment after each is the printed function's
    name for the value (a count appended where that name is bound again). -/

def k0_pay23 (x0 : Vec F S2x4x4096 .bf16) (x1 : Vec F S12x128 .bf16) (x2 : Vec F S1x128 .f32) (x3 : Vec F S256x128 .bf16) (x4 : Vec F S1x128 .f32) (x5 : Vec F S384x128 .bf16) (x6 : Vec F S1x128 .f32) (x7 : Vec F S128x64 .bf16) (x8 : Vec F S1x64 .f32) (x9 : Vec F S64x64 .bf16) (x10 : Vec F S1x64 .f32) (x11 : Vec F S64x512 .f32) (x12 : Vec F S1x512 .f32) (x13 : Vec F S512x64 .bf16) (x14 : Vec F S192x128 .bf16) (x15 : Vec F S1x128 .f32) (x16 : Vec F S384x128 .bf16) (x17 : Vec F S1x128 .f32) (x18 : Vec F S256x4 .bf16) (x19 : Vec F S1x4 .f32) : FVec F S4096x128 .bf16 :=
  k0_pay2 (View.ld x0 r0_0) (View.ld x1 r0_1) (View.ld x2 r0_2) (View.ld x3 r0_3) (View.ld x4 r0_2) -- `v38`
def k0_pay24 (x0 : Vec F S2x4x4096 .bf16) (x1 : Vec F S12x128 .bf16) (x2 : Vec F S1x128 .f32) (x3 : Vec F S256x128 .bf16) (x4 : Vec F S1x128 .f32) (x5 : Vec F S384x128 .bf16) (x6 : Vec F S1x128 .f32) (x7 : Vec F S128x64 .bf16) (x8 : Vec F S1x64 .f32) (x9 : Vec F S64x64 .bf16) (x10 : Vec F S1x64 .f32) (x11 : Vec F S64x512 .f32) (x12 : Vec F S1x512 .f32) (x13 : Vec F S512x64 .bf16) (x14 : Vec F S192x128 .bf16) (x15 : Vec F S1x128 .f32) (x16 : Vec F S384x128 .bf16) (x17 : Vec F S1x128 .f32) (x18 : Vec F S256x4 .bf16) (x19 : Vec F S1x4 .f32) : FVec F S4096x64 .f32 :=
  k0_pay3 (k0_pay23 x0 x1 x2 x3 x4 x5 x6 x7 x8 x9 x10 x11 x12 x13 x14 x15 x16 x17 x18 x19) (Scalar.ofBits .bf16 0x0000#16) (View.ld x5 r0_4) (View.ld x6 r0_2) (View.ld x7 r0_5) (View.ld x8 r0_6) (View.ld x9 r0_7) (View.ld x10 r0_6) -- `v70`
def k0_pay25 (x0 : Vec F S2x4x4096 .bf16) (x1 : Vec F S12x128 .bf16) (x2 : Vec F S1x128 .f32) (x3 : Vec F S256x128 .bf16) (x4 : Vec F S1x128 .f32) (x5 : Vec F S384x128 .bf16) (x6 : Vec F S1x128 .f32) (x7 : Vec F S128x64 .bf16) (x8 : Vec F S1x64 .f32) (x9 : Vec F S64x64 .bf16) (x10 : Vec F S1x64 .f32) (x11 : Vec F S64x512 .f32) (x12 : Vec F S1x512 .f32) (x13 : Vec F S512x64 .bf16) (x14 : Vec F S192x128 .bf16) (x15 : Vec F S1x128 .f32) (x16 : Vec F S384x128 .bf16) (x17 : Vec F S1x128 .f32) (x18 : Vec F S256x4 .bf16) (x19 : Vec F S1x4 .f32) : FVec F S4096x512 .f32 :=
  k0_pay4 (k0_pay23 x0 x1 x2 x3 x4 x5 x6 x7 x8 x9 x10 x11 x12 x13 x14 x15 x16 x17 x18 x19) (Scalar.ofBits .bf16 0x0000#16) (View.ld x5 r0_4) (View.ld x6 r0_2) (View.ld x7 r0_5) (View.ld x8 r0_6) (View.ld x9 r0_7) (View.ld x10 r0_6) (View.ld x12 r0_8) -- `v78`
def k0_pay26 (x0 : Vec F S2x4x4096 .bf16) (x1 : Vec F S12x128 .bf16) (x2 : Vec F S1x128 .f32) (x3 : Vec F S256x128 .bf16) (x4 : Vec F S1x128 .f32) (x5 : Vec F S384x128 .bf16) (x6 : Vec F S1x128 .f32) (x7 : Vec F S128x64 .bf16) (x8 : Vec F S1x64 .f32) (x9 : Vec F S64x64 .bf16) (x10 : Vec F S1x64 .f32) (x11 : Vec F S64x512 .f32) (x12 : Vec F S1x512 .f32) (x13 : Vec F S512x64 .bf16) (x14 : Vec F S192x128 .bf16) (x15 : Vec F S1x128 .f32) (x16 : Vec F S384x128 .bf16) (x17 : Vec F S1x128 .f32) (x18 : Vec F S256x4 .bf16) (x19 : Vec F S1x4 .f32) : FVec F S4096x64 .f32 :=
  k0_pay13 (k0_pay12 (View.ld x0 r0_16) (View.ld x1 r0_1) (View.ld x2 r0_2) (View.ld x3 r0_3)) (View.ld x4 r0_2) (View.ld x5 r0_4) (View.ld x6 r0_2) (View.ld x7 r0_5) (View.ld x8 r0_6) (View.ld x9 r0_7) (View.ld x10 r0_6) -- `v236`
def k0_pay27 (x0 : Vec F S2x4x4096 .bf16) (x1 : Vec F S12x128 .bf16) (x2 : Vec F S1x128 .f32) (x3 : Vec F S256x128 .bf16) (x4 : Vec F S1x128 .f32) (x5 : Vec F S384x128 .bf16) (x6 : Vec F S1x128 .f32) (x7 : Vec F S128x64 .bf16) (x8 : Vec F S1x64 .f32) (x9 : Vec F S64x64 .bf16) (x10 : Vec F S1x64 .f32) (x11 : Vec F S64x512 .f32) (x12 : Vec F S1x512 .f32) (x13 : Vec F S512x64 .bf16) (x14 : Vec F S192x128 .bf16) (x15 : Vec F S1x128 .f32) (x16 : Vec F S384x128 .bf16) (x17 : Vec F S1x128 .f32) (x18 : Vec F S256x4 .bf16) (x19 : Vec F S1x4 .f32) : FVec F S4096x64 .f32 :=
  k0_pay15 (k0_pay26 x0 x1 x2 x3 x4 x5 x6 x7 x8 x9 x10 x11 x12 x13 x14 x15 x16 x17 x18 x19) (View.ld x12 r0_8) (View.ld x11 r0_9) (View.ld x13 r0_10) -- `v265`

/-- Window 20's staging buffer after the body, from the input windows' blocks: its 2 stores as pieces, LAST
    FIRST (Lib/Pipeline/FrameBody.lean `View.canon`; the payloads are the skeleton's and the values stated above). -/
def out0_20 (x0 : Vec F S2x4x4096 .bf16) (x1 : Vec F S12x128 .bf16) (x2 : Vec F S1x128 .f32) (x3 : Vec F S256x128 .bf16) (x4 : Vec F S1x128 .f32) (x5 : Vec F S384x128 .bf16) (x6 : Vec F S1x128 .f32) (x7 : Vec F S128x64 .bf16) (x8 : Vec F S1x64 .f32) (x9 : Vec F S64x64 .bf16) (x10 : Vec F S1x64 .f32) (x11 : Vec F S64x512 .f32) (x12 : Vec F S1x512 .f32) (x13 : Vec F S512x64 .bf16) (x14 : Vec F S192x128 .bf16) (x15 : Vec F S1x128 .f32) (x16 : Vec F S384x128 .bf16) (x17 : Vec F S1x128 .f32) (x18 : Vec F S256x4 .bf16) (x19 : Vec F S1x4 .f32) : Vec F S2x4x4096 .f32 :=
  View.canon [⟨r0_16, k0_pay1 (k0_pay19 (k0_pay27 x0 x1 x2 x3 x4 x5 x6 x7 x8 x9 x10 x11 x12 x13 x14 x15 x16 x17 x18 x19) (View.ld x14 r0_13) (View.ld x15 r0_2) (View.ld x16 r0_4) (View.ld x17 r0_2)) (k0_pay20 (k0_pay27 x0 x1 x2 x3 x4 x5 x6 x7 x8 x9 x10 x11 x12 x13 x14 x15 x16 x17 x18 x19) (View.ld x14 r0_13) (View.ld x15 r0_2) (View.ld x16 r0_4) (View.ld x17 r0_2)) (k0_pay21 (k0_pay27 x0 x1 x2 x3 x4 x5 x6 x7 x8 x9 x10 x11 x12 x13 x14 x15 x16 x17 x18 x19) (View.ld x14 r0_13) (View.ld x15 r0_2) (View.ld x16 r0_4) (View.ld x17 r0_2)) (k0_pay22 (k0_pay27 x0 x1 x2 x3 x4 x5 x6 x7 x8 x9 x10 x11 x12 x13 x14 x15 x16 x17 x18 x19) (View.ld x14 r0_13) (View.ld x15 r0_2) (View.ld x16 r0_4) (View.ld x17 r0_2)) (Scalar.ofBits .bf16 0x0000#16) (View.ld x18 r0_14) (View.ld x19 r0_15)⟩,
    ⟨r0_0, k0_pay11 (k0_pay10 (k0_pay9 (k0_pay24 x0 x1 x2 x3 x4 x5 x6 x7 x8 x9 x10 x11 x12 x13 x14 x15 x16 x17 x18 x19) (k0_pay25 x0 x1 x2 x3 x4 x5 x6 x7 x8 x9 x10 x11 x12 x13 x14 x15 x16 x17 x18 x19) (View.ld x11 r0_9) (View.ld x13 r0_10)) (View.ld x14 r0_13) (View.ld x15 r0_2) (View.ld x16 r0_4) (View.ld x17 r0_2) (View.ld x18 r0_14)) (View.ld x19 r0_15)⟩]

/-- Its stores tile the buffer (checked by evaluation), so they cover it. -/
theorem cover0_20 (p0 : Vec F S1x4x4096 .f32) (p1 : Vec F S1x4x4096 .f32) (y : S2x4x4096.Idx) :
    ∃ pc ∈ ([⟨r0_16, p0⟩, ⟨r0_0, p1⟩] : List (View.Piece (Elt F) S2x4x4096 .f32)), y ∈ pc.1.set :=
  View.cover_of_tiled [⟨r0_16, p0⟩, ⟨r0_0, p1⟩] S1x4x4096.size (by rfl) y

/-- Window 21's staging buffer after the body, from the input windows' blocks: its 2 stores as pieces, LAST
    FIRST (Lib/Pipeline/FrameBody.lean `View.canon`; the payloads are the skeleton's and the values stated above). -/
def out0_21 (x0 : Vec F S2x4x4096 .bf16) (x1 : Vec F S12x128 .bf16) (x2 : Vec F S1x128 .f32) (x3 : Vec F S256x128 .bf16) (x4 : Vec F S1x128 .f32) (x5 : Vec F S384x128 .bf16) (x6 : Vec F S1x128 .f32) (x7 : Vec F S128x64 .bf16) (x8 : Vec F S1x64 .f32) (x9 : Vec F S64x64 .bf16) (x10 : Vec F S1x64 .f32) (x11 : Vec F S64x512 .f32) (x12 : Vec F S1x512 .f32) (x13 : Vec F S512x64 .bf16) (x14 : Vec F S192x128 .bf16) (x15 : Vec F S1x128 .f32) (x16 : Vec F S384x128 .bf16) (x17 : Vec F S1x128 .f32) (x18 : Vec F S256x4 .bf16) (x19 : Vec F S1x4 .f32) : Vec F S2x1x4096 .i32 :=
  View.canon [⟨r0_17, k0_pay16 (k0_pay26 x0 x1 x2 x3 x4 x5 x6 x7 x8 x9 x10 x11 x12 x13 x14 x15 x16 x17 x18 x19) (View.ld x12 r0_8) (View.ld x11 r0_9)⟩,
    ⟨r0_11, k0_pay7 (k0_pay24 x0 x1 x2 x3 x4 x5 x6 x7 x8 x9 x10 x11 x12 x13 x14 x15 x16 x17 x18 x19) (k0_pay25 x0 x1 x2 x3 x4 x5 x6 x7 x8 x9 x10 x11 x12 x13 x14 x15 x16 x17 x18 x19) (View.ld x11 r0_9)⟩]

/-- Its stores tile the buffer (checked by evaluation), so they cover it. -/
theorem cover0_21 (p0 : Vec F S1x1x4096 .i32) (p1 : Vec F S1x1x4096 .i32) (y : S2x1x4096.Idx) :
    ∃ pc ∈ ([⟨r0_17, p0⟩, ⟨r0_11, p1⟩] : List (View.Piece (Elt F) S2x1x4096 .i32)), y ∈ pc.1.set :=
  View.cover_of_tiled [⟨r0_17, p0⟩, ⟨r0_11, p1⟩] S1x1x4096.size (by rfl) y

/-- Window 22's staging buffer after the body, from the input windows' blocks: its 2 stores as pieces, LAST
    FIRST (Lib/Pipeline/FrameBody.lean `View.canon`; the payloads are the skeleton's and the values stated above). -/
def out0_22 (x0 : Vec F S2x4x4096 .bf16) (x1 : Vec F S12x128 .bf16) (x2 : Vec F S1x128 .f32) (x3 : Vec F S256x128 .bf16) (x4 : Vec F S1x128 .f32) (x5 : Vec F S384x128 .bf16) (x6 : Vec F S1x128 .f32) (x7 : Vec F S128x64 .bf16) (x8 : Vec F S1x64 .f32) (x9 : Vec F S64x64 .bf16) (x10 : Vec F S1x64 .f32) (x11 : Vec F S64x512 .f32) (x12 : Vec F S1x512 .f32) (x13 : Vec F S512x64 .bf16) (x14 : Vec F S192x128 .bf16) (x15 : Vec F S1x128 .f32) (x16 : Vec F S384x128 .bf16) (x17 : Vec F S1x128 .f32) (x18 : Vec F S256x4 .bf16) (x19 : Vec F S1x4 .f32) : Vec F S2x1x64 .f32 :=
  View.canon [⟨r0_18, k0_pay17 (k0_pay26 x0 x1 x2 x3 x4 x5 x6 x7 x8 x9 x10 x11 x12 x13 x14 x15 x16 x17 x18 x19) (View.ld x12 r0_8) (View.ld x11 r0_9) (View.ld x13 r0_10)⟩,
    ⟨r0_12, k0_pay8 (k0_pay24 x0 x1 x2 x3 x4 x5 x6 x7 x8 x9 x10 x11 x12 x13 x14 x15 x16 x17 x18 x19) (k0_pay25 x0 x1 x2 x3 x4 x5 x6 x7 x8 x9 x10 x11 x12 x13 x14 x15 x16 x17 x18 x19) (View.ld x11 r0_9) (View.ld x13 r0_10)⟩]

/-- Its stores tile the buffer (checked by evaluation), so they cover it. -/
theorem cover0_22 (p0 : Vec F S1x1x64 .f32) (p1 : Vec F S1x1x64 .f32) (y : S2x1x64.Idx) :
    ∃ pc ∈ ([⟨r0_18, p0⟩, ⟨r0_12, p1⟩] : List (View.Piece (Elt F) S2x1x64 .f32)), y ∈ pc.1.set :=
  View.cover_of_tiled [⟨r0_18, p0⟩, ⟨r0_12, p1⟩] S1x1x64.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S2x4x4096 .bf16) (harg1 : arg1.IsWhole) (arg2 : Memref sig .tc .vmem S12x128 .bf16) (harg2 : arg2.IsWhole) (arg3 : Memref sig .tc .vmem S1x128 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S384x128 .bf16) (harg6 : arg6.IsWhole) (arg7 : Memref sig .tc .vmem S1x128 .f32) (harg7 : arg7.IsWhole) (arg8 : Memref sig .tc .vmem S128x64 .bf16) (harg8 : arg8.IsWhole) (arg9 : Memref sig .tc .vmem S1x64 .f32) (harg9 : arg9.IsWhole) (arg10 : Memref sig .tc .vmem S64x64 .bf16) (harg10 : arg10.IsWhole) (arg11 : Memref sig .tc .vmem S1x64 .f32) (harg11 : arg11.IsWhole) (arg12 : Memref sig .tc .vmem S64x512 .f32) (harg12 : arg12.IsWhole) (arg13 : Memref sig .tc .vmem S1x512 .f32) (harg13 : arg13.IsWhole) (arg14 : Memref sig .tc .vmem S512x64 .bf16) (harg14 : arg14.IsWhole) (arg15 : Memref sig .tc .vmem S192x128 .bf16) (harg15 : arg15.IsWhole) (arg16 : Memref sig .tc .vmem S1x128 .f32) (harg16 : arg16.IsWhole) (arg17 : Memref sig .tc .vmem S384x128 .bf16) (harg17 : arg17.IsWhole) (arg18 : Memref sig .tc .vmem S1x128 .f32) (harg18 : arg18.IsWhole) (arg19 : Memref sig .tc .vmem S256x4 .bf16) (harg19 : arg19.IsWhole) (arg20 : Memref sig .tc .vmem S1x4 .f32) (harg20 : arg20.IsWhole) (arg21 : Memref sig .tc .vmem S2x4x4096 .f32) (harg21 : arg21.IsWhole) (arg22 : Memref sig .tc .vmem S2x1x4096 .i32) (harg22 : arg22.IsWhole) (arg23 : Memref sig .tc .vmem S2x1x64 .f32) (harg23 : arg23.IsWhole)
    (x0 : Vec F S2x4x4096 .bf16) (x1 : Vec F S12x128 .bf16) (x2 : Vec F S1x128 .f32) (x3 : Vec F S256x128 .bf16) (x4 : Vec F S1x128 .f32) (x5 : Vec F S384x128 .bf16) (x6 : Vec F S1x128 .f32) (x7 : Vec F S128x64 .bf16) (x8 : Vec F S1x64 .f32) (x9 : Vec F S64x64 .bf16) (x10 : Vec F S1x64 .f32) (x11 : Vec F S64x512 .f32) (x12 : Vec F S1x512 .f32) (x13 : Vec F S512x64 .bf16) (x14 : Vec F S192x128 .bf16) (x15 : Vec F S1x128 .f32) (x16 : Vec F S384x128 .bf16) (x17 : Vec F S1x128 .f32) (x18 : Vec F S256x4 .bf16) (x19 : Vec F S1x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 x0 x1 x2 x3 x4 x5 x6 x7 x8 x9 x10 x11 x12 x13 x14 x15 x16 x17 x18 x19) ∗ owns (c : Thread nD τ) arg22 fullShare (out0_21 x0 x1 x2 x3 x4 x5 x6 x7 x8 x9 x10 x11 x12 x13 x14 x15 x16 x17 x18 x19) ∗ owns (c : Thread nD τ) arg23 fullShare (out0_22 x0 x1 x2 x3 x4 x5 x6 x7 x8 x9 x10 x11 x12 x13 x14 x15 x16 x17 x18 x19)) -∗ K ⟨⟩))
      ⊢ wp frame (wpE (defs₀ (F := F)) Variants.none c none) E (cc0__vqvae_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__vqvae_body_eq_skeleton]; unfold cc0__vqvae_body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _ _)).trans ?_
    rfl
  iexists _; isplitr
  swap; · iexact H22
  ipureintro
  refine (View.read_writes_eq_canon _ _ _ (cover0_22 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_KernelIdeal`'s statement (Defs.lean) at any `F`.
-/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Gen

end
-- ==== Proof.RefOps.lean ====
/- The reference's operations in twelve stretches, and what each writes. -/
module

public import proofs.«01_k».proof.Proof.Gen.ReferenceIdeal
public import Idealize.ShloMosaic.Lib.StableHlo.RunHlo
public import Idealize.ShloMosaic.Lib.StableHlo.RunRead
public import Idealize.ShloMosaic.Lib.Claim

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo Idealize.SL.Sem

variable {F : FTy → Type} [FloatOps F]

/-- Stretch 1 of the reference's operations. -/
def ops1 : List (HloOp τ sig (Elt F)) :=
  [ nullary main_cst (constant S_ .f32 0x00000000#32),
    binary main_arg0 main_cst main_v0 (fun x v => pad S32x1x16386 ![0, 0, 1] ![0, 0, 1] ![0, 0, 0] x v pads_S32x1x16384_S32x1x16386_000_000_110 h_S_),
    unary main_v0 main_v1 (Host.slice S32x1x8192 ![0, 0, 0] ![1, 1, 2] · slicesBy_S32x1x16386_S32x1x8192_0s1_0s1_0s2),
    unary main_arg1 main_v2 (extractStridedSlice S64x1x1 ![0, 0, 0] · slices_S64x1x4_S64x1x1_0_0_0),
    reshape main_v2 main_v3 (rfl : (.f32 : EltTy) = .f32) shapeCasts_S64x1x1_S64x1,
    binary main_v1 main_v3 main_v4 (fun l r => Host.dotGeneral dot_S32x1x8192_S64x1_S32x8192x64_1_1_02_0_n_n none l r),
    unary main_v0 main_v5 (Host.slice S32x1x8192 ![0, 0, 1] ![1, 1, 2] · slicesBy_S32x1x16386_S32x1x8192_0s1_0s1_1s2),
    unary main_arg1 main_v6 (extractStridedSlice S64x1x1 ![0, 0, 1] · slices_S64x1x4_S64x1x1_0_0_1),
    reshape main_v6 main_v7 (rfl : (.f32 : EltTy) = .f32) shapeCasts_S64x1x1_S64x1,
    binary main_v5 main_v7 main_v8 (fun l r => Host.dotGeneral dot_S32x1x8192_S64x1_S32x8192x64_1_1_02_0_n_n none l r),
    unary main_v0 main_v9 (Host.slice S32x1x8192 ![0, 0, 2] ![1, 1, 2] · slicesBy_S32x1x16386_S32x1x8192_0s1_0s1_2s2),
    unary main_arg1 main_v10 (extractStridedSlice S64x1x1 ![0, 0, 2] · slices_S64x1x4_S64x1x1_0_0_2),
    reshape main_v10 main_v11 (rfl : (.f32 : EltTy) = .f32) shapeCasts_S64x1x1_S64x1,
    binary main_v9 main_v11 main_v12 (fun l r => Host.dotGeneral dot_S32x1x8192_S64x1_S32x8192x64_1_1_02_0_n_n none l r),
    unary main_v0 main_v13 (Host.slice S32x1x8192 ![0, 0, 3] ![1, 1, 2] · slicesBy_S32x1x16386_S32x1x8192_0s1_0s1_3s2),
    unary main_arg1 main_v14 (extractStridedSlice S64x1x1 ![0, 0, 3] · slices_S64x1x4_S64x1x1_0_0_3),
    reshape main_v14 main_v15 (rfl : (.f32 : EltTy) = .f32) shapeCasts_S64x1x1_S64x1,
    binary main_v13 main_v15 main_v16 (fun l r => Host.dotGeneral dot_S32x1x8192_S64x1_S32x8192x64_1_1_02_0_n_n none l r),
    binary main_v4 main_v8 main_v17 addf,
    binary main_v17 main_v12 main_v18 addf,
    binary main_v18 main_v16 main_v19 addf,
    unary main_v19 main_v20 (transpose S32x64x8192 [0, 2, 1] · transposes_S32x8192x64_S32x64x8192_0_2_1),
    unary main_arg2 main_v21 (broadcastInDim S1x64x1 ![1] bcast_S64_S1x64x1_1),
    unary main_v21 main_v22 (broadcastInDim S32x64x8192 ![0, 1, 2] bcast_S1x64x1_S32x64x8192_0_1_2),
    binary main_v20 main_v22 main_v23 addf,
    nullary main_cst_0 (constant S_ .f32 0x00000000#32),
    unary main_cst_0 main_v24 (broadcastInDim S32x64x8192 ![] bcast_S_S32x64x8192),
    binary main_v23 main_v24 main_v25 maximumf ]

/-- What stretch 1 writes, in order. -/
abbrev wr1 : List (Ref sig .tc) :=
  [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_cst_0, main_v24, main_v25]

/-- Stretch 2 of the reference's operations. -/
def ops2 : List (HloOp τ sig (Elt F)) :=
  [ nullary main_cst_1 (constant S_ .f32 0x00000000#32),
    binary main_v25 main_cst_1 main_v26 (fun x v => pad S32x64x8194 ![0, 0, 1] ![0, 0, 1] ![0, 0, 0] x v pads_S32x64x8192_S32x64x8194_000_000_110 h_S_),
    unary main_v26 main_v27 (Host.slice S32x64x4096 ![0, 0, 0] ![1, 1, 2] · slicesBy_S32x64x8194_S32x64x4096_0s1_0s1_0s2),
    unary main_arg3 main_v28 (extractStridedSlice S128x64x1 ![0, 0, 0] · slices_S128x64x4_S128x64x1_0_0_0),
    reshape main_v28 main_v29 (rfl : (.f32 : EltTy) = .f32) shapeCasts_S128x64x1_S128x64,
    binary main_v27 main_v29 main_v30 (fun l r => Host.dotGeneral dot_S32x64x4096_S128x64_S32x4096x128_1_1_02_0_n_n none l r),
    unary main_v26 main_v31 (Host.slice S32x64x4096 ![0, 0, 1] ![1, 1, 2] · slicesBy_S32x64x8194_S32x64x4096_0s1_0s1_1s2),
    unary main_arg3 main_v32 (extractStridedSlice S128x64x1 ![0, 0, 1] · slices_S128x64x4_S128x64x1_0_0_1),
    reshape main_v32 main_v33 (rfl : (.f32 : EltTy) = .f32) shapeCasts_S128x64x1_S128x64,
    binary main_v31 main_v33 main_v34 (fun l r => Host.dotGeneral dot_S32x64x4096_S128x64_S32x4096x128_1_1_02_0_n_n none l r),
    unary main_v26 main_v35 (Host.slice S32x64x4096 ![0, 0, 2] ![1, 1, 2] · slicesBy_S32x64x8194_S32x64x4096_0s1_0s1_2s2),
    unary main_arg3 main_v36 (extractStridedSlice S128x64x1 ![0, 0, 2] · slices_S128x64x4_S128x64x1_0_0_2),
    reshape main_v36 main_v37 (rfl : (.f32 : EltTy) = .f32) shapeCasts_S128x64x1_S128x64,
    binary main_v35 main_v37 main_v38 (fun l r => Host.dotGeneral dot_S32x64x4096_S128x64_S32x4096x128_1_1_02_0_n_n none l r),
    unary main_v26 main_v39 (Host.slice S32x64x4096 ![0, 0, 3] ![1, 1, 2] · slicesBy_S32x64x8194_S32x64x4096_0s1_0s1_3s2),
    unary main_arg3 main_v40 (extractStridedSlice S128x64x1 ![0, 0, 3] · slices_S128x64x4_S128x64x1_0_0_3),
    reshape main_v40 main_v41 (rfl : (.f32 : EltTy) = .f32) shapeCasts_S128x64x1_S128x64,
    binary main_v39 main_v41 main_v42 (fun l r => Host.dotGeneral dot_S32x64x4096_S128x64_S32x4096x128_1_1_02_0_n_n none l r),
    binary main_v30 main_v34 main_v43 addf,
    binary main_v43 main_v38 main_v44 addf,
    binary main_v44 main_v42 main_v45 addf,
    unary main_v45 main_v46 (transpose S32x128x4096 [0, 2, 1] · transposes_S32x4096x128_S32x128x4096_0_2_1),
    unary main_arg4 main_v47 (broadcastInDim S1x128x1 ![1] bcast_S128_S1x128x1_1),
    unary main_v47 main_v48 (broadcastInDim S32x128x4096 ![0, 1, 2] bcast_S1x128x1_S32x128x4096_0_1_2),
    binary main_v46 main_v48 main_v49 addf,
    nullary main_cst_2 (constant S_ .f32 0x00000000#32),
    unary main_cst_2 main_v50 (broadcastInDim S32x128x4096 ![] bcast_S_S32x128x4096),
    binary main_v49 main_v50 main_v51 maximumf ]

/-- What stretch 2 writes, in order. -/
abbrev wr2 : List (Ref sig .tc) :=
  [main_cst_1, main_v26, main_v27, main_v28, main_v29, main_v30, main_v31, main_v32, main_v33, main_v34, main_v35, main_v36, main_v37, main_v38, main_v39, main_v40, main_v41, main_v42, main_v43, main_v44, main_v45, main_v46, main_v47, main_v48, main_v49, main_cst_2, main_v50, main_v51]

/-- Stretch 3 of the reference's operations. -/
def ops3 : List (HloOp τ sig (Elt F)) :=
  [ nullary main_cst_3 (constant S_ .f32 0x00000000#32),
    binary main_v51 main_cst_3 main_v52 (fun x v => pad S32x128x4098 ![0, 0, 1] ![0, 0, 1] ![0, 0, 0] x v pads_S32x128x4096_S32x128x4098_000_000_110 h_S_),
    unary main_v52 main_v53 (extractStridedSlice S32x128x4096 ![0, 0, 0] · slices_S32x128x4098_S32x128x4096_0_0_0),
    unary main_arg5 main_v54 (extractStridedSlice S128x128x1 ![0, 0, 0] · slices_S128x128x3_S128x128x1_0_0_0),
    reshape main_v54 main_v55 (rfl : (.f32 : EltTy) = .f32) shapeCasts_S128x128x1_S128x128,
    binary main_v53 main_v55 main_v56 (fun l r => Host.dotGeneral dot_S32x128x4096_S128x128_S32x4096x128_1_1_02_0_n_n none l r),
    unary main_v52 main_v57 (extractStridedSlice S32x128x4096 ![0, 0, 1] · slices_S32x128x4098_S32x128x4096_0_0_1),
    unary main_arg5 main_v58 (extractStridedSlice S128x128x1 ![0, 0, 1] · slices_S128x128x3_S128x128x1_0_0_1),
    reshape main_v58 main_v59 (rfl : (.f32 : EltTy) = .f32) shapeCasts_S128x128x1_S128x128,
    binary main_v57 main_v59 main_v60 (fun l r => Host.dotGeneral dot_S32x128x4096_S128x128_S32x4096x128_1_1_02_0_n_n none l r),
    unary main_v52 main_v61 (extractStridedSlice S32x128x4096 ![0, 0, 2] · slices_S32x128x4098_S32x128x4096_0_0_2),
    unary main_arg5 main_v62 (extractStridedSlice S128x128x1 ![0, 0, 2] · slices_S128x128x3_S128x128x1_0_0_2),
    reshape main_v62 main_v63 (rfl : (.f32 : EltTy) = .f32) shapeCasts_S128x128x1_S128x128,
    binary main_v61 main_v63 main_v64 (fun l r => Host.dotGeneral dot_S32x128x4096_S128x128_S32x4096x128_1_1_02_0_n_n none l r),
    binary main_v56 main_v60 main_v65 addf,
    binary main_v65 main_v64 main_v66 addf,
    unary main_v66 main_v67 (transpose S32x128x4096 [0, 2, 1] · transposes_S32x4096x128_S32x128x4096_0_2_1),
    unary main_arg6 main_v68 (broadcastInDim S1x128x1 ![1] bcast_S128_S1x128x1_1),
    unary main_v68 main_v69 (broadcastInDim S32x128x4096 ![0, 1, 2] bcast_S1x128x1_S32x128x4096_0_1_2),
    binary main_v67 main_v69 main_v70 addf,
    nullary main_cst_4 (constant S_ .f32 0x00000000#32),
    unary main_cst_4 main_v71 (broadcastInDim S32x128x4096 ![] bcast_S_S32x128x4096),
    binary main_v70 main_v71 main_v72 maximumf ]

/-- What stretch 3 writes, in order. -/
abbrev wr3 : List (Ref sig .tc) :=
  [main_cst_3, main_v52, main_v53, main_v54, main_v55, main_v56, main_v57, main_v58, main_v59, main_v60, main_v61, main_v62, main_v63, main_v64, main_v65, main_v66, main_v67, main_v68, main_v69, main_v70, main_cst_4, main_v71, main_v72]

/-- Stretch 4 of the reference's operations. -/
def ops4 : List (HloOp τ sig (Elt F)) :=
  [ nullary main_cst_5 (constant S_ .f32 0x00000000#32),
    binary main_v72 main_cst_5 main_v73 (fun x v => pad S32x128x4096 ![0, 0, 0] ![0, 0, 0] ![0, 0, 0] x v pads_S32x128x4096_S32x128x4096_000_000_000 h_S_),
    reshape main_arg7 main_v74 (rfl : (.f32 : EltTy) = .f32) shapeCasts_S64x128x1_S64x128,
    binary main_v73 main_v74 main_v75 (fun l r => Host.dotGeneral dot_S32x128x4096_S64x128_S32x4096x64_1_1_02_0_n_n none l r),
    unary main_v75 main_v76 (transpose S32x64x4096 [0, 2, 1] · transposes_S32x4096x64_S32x64x4096_0_2_1),
    unary main_arg8 main_v77 (broadcastInDim S1x64x1 ![1] bcast_S64_S1x64x1_1),
    unary main_v77 main_v78 (broadcastInDim S32x64x4096 ![0, 1, 2] bcast_S1x64x1_S32x64x4096_0_1_2),
    binary main_v76 main_v78 main_v79 addf ]

/-- What stretch 4 writes, in order. -/
abbrev wr4 : List (Ref sig .tc) :=
  [main_cst_5, main_v73, main_v74, main_v75, main_v76, main_v77, main_v78, main_v79]

/-- Stretch 5 of the reference's operations. -/
def ops5 : List (HloOp τ sig (Elt F)) :=
  [ nullary main_cst_6 (constant S_ .f32 0x00000000#32),
    binary main_v79 main_cst_6 main_v80 (fun x v => pad S32x64x4096 ![0, 0, 0] ![0, 0, 0] ![0, 0, 0] x v pads_S32x64x4096_S32x64x4096_000_000_000 h_S_),
    reshape main_arg9 main_v81 (rfl : (.f32 : EltTy) = .f32) shapeCasts_S64x64x1_S64x64,
    binary main_v80 main_v81 main_v82 (fun l r => Host.dotGeneral dot_S32x64x4096_S64x64_S32x4096x64_1_1_02_0_n_n none l r),
    unary main_v82 main_v83 (transpose S32x64x4096 [0, 2, 1] · transposes_S32x4096x64_S32x64x4096_0_2_1),
    unary main_arg10 main_v84 (broadcastInDim S1x64x1 ![1] bcast_S64_S1x64x1_1),
    unary main_v84 main_v85 (broadcastInDim S32x64x4096 ![0, 1, 2] bcast_S1x64x1_S32x64x4096_0_1_2),
    binary main_v83 main_v85 main_v86 addf,
    unary main_v86 main_v87 (transpose S32x4096x64 [0, 2, 1] · transposes_S32x64x4096_S32x4096x64_0_2_1) ]

/-- What stretch 5 writes, in order. -/
abbrev wr5 : List (Ref sig .tc) :=
  [main_cst_6, main_v80, main_v81, main_v82, main_v83, main_v84, main_v85, main_v86, main_v87]

/-- Stretch 6 of the reference's operations. -/
def ops6 : List (HloOp τ sig (Elt F)) :=
  [ reshape main_v87 main_v88 (rfl : (.f32 : EltTy) = .f32) shapeCasts_S32x4096x64_S131072x64,
    binary main_v88 main_v88 main_v89 mulf,
    nullary main_cst_7 (constant S_ .f32 0x00000000#32),
    binary main_v89 main_cst_7 main_v90 (fun x v => Host.reduceAdd x v reducesTo_S131072x64_S131072_d1 h_S_),
    unary main_v90 main_v91 (broadcastInDim S131072x1 ![0] bcast_S131072_S131072x1_0),
    binary main_arg11 main_arg11 main_v92 mulf,
    nullary main_cst_8 (constant S_ .f32 0x00000000#32),
    binary main_v92 main_cst_8 main_v93 (fun x v => Host.reduceAdd x v reducesTo_S512x64_S512_d1 h_S_),
    unary main_v93 main_v94 (broadcastInDim S1x512 ![1] bcast_S512_S1x512_1),
    unary main_v91 main_v95 (broadcastInDim S131072x512 ![0, 1] bcast_S131072x1_S131072x512_0_1),
    unary main_v94 main_v96 (broadcastInDim S131072x512 ![0, 1] bcast_S1x512_S131072x512_0_1),
    binary main_v95 main_v96 main_v97 addf,
    unary main_arg11 main_v98 (transpose S64x512 [1, 0] · transposes_S512x64_S64x512_1_0),
    binary main_v88 main_v98 main_v99 (fun l r => Host.dotGeneral dot_S131072x64_S64x512_S131072x512_1_0_0_1_n_n none l r),
    nullary main_cst_9 (constant S_ .f32 0x40000000#32),
    unary main_cst_9 main_v100 (broadcastInDim S131072x512 ![] bcast_S_S131072x512),
    binary main_v100 main_v99 main_v101 mulf,
    binary main_v97 main_v101 main_v102 subf ]

/-- What stretch 6 writes, in order. -/
abbrev wr6 : List (Ref sig .tc) :=
  [main_v88, main_v89, main_cst_7, main_v90, main_v91, main_v92, main_cst_8, main_v93, main_v94, main_v95, main_v96, main_v97, main_v98, main_v99, main_cst_9, main_v100, main_v101, main_v102]

/-- Stretch 7 of the reference's operations. -/
def ops7 : List (HloOp τ sig (Elt F)) :=
  [ nullary main_call0_v0 (iotaInDim S131072x512 32 1),
    nullary main_call0_cst (constant S_ .f32 0x7F800000#32),
    nullary main_call0_c (constantI S_ 32 0#32),
    quaternary main_v102 main_call0_v0 main_call0_cst main_call0_c main_call0_v1_0 (fun x y u v j => (Host.argReduce reducer_argmin_f32_i32 x y u v reducesTo_S131072x512_S131072_d1 h_S_ j).1),
    quaternary main_v102 main_call0_v0 main_call0_cst main_call0_c main_v103 (fun x y u v j => (Host.argReduce reducer_argmin_f32_i32 x y u v reducesTo_S131072x512_S131072_d1 h_S_ j).2) ]

/-- What stretch 7 writes, in order. -/
abbrev wr7 : List (Ref sig .tc) :=
  [main_call0_v0, main_call0_cst, main_call0_c, main_call0_v1_0, main_v103]

/-- Stretch 8 of the reference's operations. -/
def ops8 : List (HloOp τ sig (Elt F)) :=
  [ nullary main_call1_c (constantI S_ 32 0#32),
    unary main_call1_c main_call1_v0 (broadcastInDim S131072 ![] bcast_S_S131072),
    binary main_v103 main_call1_v0 main_call1_v1 (cmpi .slt),
    nullary main_call1_c_0 (constantI S_ 32 512#32),
    unary main_call1_c_0 main_call1_v2 (broadcastInDim S131072 ![] bcast_S_S131072),
    binary main_v103 main_call1_v2 main_call1_v3 addi,
    ternary main_call1_v1 main_call1_v3 main_v103 main_call1_v4 select,
    unary main_call1_v4 main_call1_v5 (broadcastInDim S131072x1 ![0] bcast_S131072_S131072x1_0),
    nullary main_call1_c_1 (constantI S1 32 511#32),
    nullary main_call1_c_2 (constantI S_ 32 0#32),
    unary main_call1_c_2 main_call1_v6 (broadcastInDim S131072x1 ![] bcast_S_S131072x1),
    binary main_call1_v5 main_call1_v6 main_call1_v7 (cmpi .sge),
    unary main_call1_c_1 main_call1_v8 (broadcastInDim S1x1 ![1] bcast_S1_S1x1_1),
    unary main_call1_v8 main_call1_v9 (broadcastInDim S131072x1 ![0, 1] bcast_S1x1_S131072x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S131072x1_S131072_d1 h_S_),
    binary main_arg11 main_call1_v5 main_call1_v13 (fun x i => Host.gather gather_S512x64_S131072x1_S131072x64_1_0_n_n_0_1_164 x i),
    unary main_call1_v12 main_call1_v14 (broadcastInDim S131072x64 ![0] bcast_S131072_S131072x64_0),
    nullary main_call1_cst (constant S_ .f32 0x7FC00000#32),
    unary main_call1_cst main_call1_v15 (broadcastInDim S131072x64 ![] bcast_S_S131072x64),
    ternary main_call1_v14 main_call1_v13 main_call1_v15 main_v104 select ]

/-- What stretch 8 writes, in order. -/
abbrev wr8 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v104]

/-- Stretch 9 of the reference's operations. -/
def ops9 : List (HloOp τ sig (Elt F)) :=
  [ reshape main_v104 main_v105 (rfl : (.f32 : EltTy) = .f32) shapeCasts_S131072x64_S32x4096x64,
    binary main_v105 main_v87 main_v106 subf,
    binary main_v106 main_v106 main_v107 mulf,
    nullary main_cst_10 (constant S_ .f32 0x00000000#32),
    binary main_v107 main_cst_10 main_v108 (fun x v => Host.reduceAdd x v reducesTo_S32x4096x64_S_d0_1_2 h_S_),
    nullary main_cst_11 (constant S_ .f32 0x4B000000#32),
    binary main_v108 main_cst_11 main_v109 Host.divf,
    binary main_v105 main_v87 main_v110 subf,
    binary main_v110 main_v110 main_v111 mulf,
    nullary main_cst_12 (constant S_ .f32 0x00000000#32),
    binary main_v111 main_cst_12 main_v112 (fun x v => Host.reduceAdd x v reducesTo_S32x4096x64_S_d0_1_2 h_S_),
    nullary main_cst_13 (constant S_ .f32 0x4B000000#32),
    binary main_v112 main_cst_13 main_v113 Host.divf,
    nullary main_cst_14 (constant S_ .f32 0x3E800000#32),
    binary main_cst_14 main_v109 main_v114 mulf,
    binary main_v113 main_v114 main_v115 addf,
    binary main_v105 main_v87 main_v116 subf,
    binary main_v87 main_v116 main_v117 addf,
    unary main_v117 main_v118 (transpose S32x64x4096 [0, 2, 1] · transposes_S32x4096x64_S32x64x4096_0_2_1) ]

/-- What stretch 9 writes, in order. -/
abbrev wr9 : List (Ref sig .tc) :=
  [main_v105, main_v106, main_v107, main_cst_10, main_v108, main_cst_11, main_v109, main_v110, main_v111, main_cst_12, main_v112, main_cst_13, main_v113, main_cst_14, main_v114, main_v115, main_v116, main_v117, main_v118]

/-- Stretch 10 of the reference's operations. -/
def ops10 : List (HloOp τ sig (Elt F)) :=
  [ nullary main_cst_15 (constant S_ .f32 0x00000000#32),
    binary main_v118 main_cst_15 main_v119 (fun x v => pad S32x64x4098 ![0, 0, 1] ![0, 0, 1] ![0, 0, 0] x v pads_S32x64x4096_S32x64x4098_000_000_110 h_S_),
    unary main_v119 main_v120 (extractStridedSlice S32x64x4096 ![0, 0, 0] · slices_S32x64x4098_S32x64x4096_0_0_0),
    unary main_arg12 main_v121 (extractStridedSlice S128x64x1 ![0, 0, 0] · slices_S128x64x3_S128x64x1_0_0_0),
    reshape main_v121 main_v122 (rfl : (.f32 : EltTy) = .f32) shapeCasts_S128x64x1_S128x64,
    binary main_v120 main_v122 main_v123 (fun l r => Host.dotGeneral dot_S32x64x4096_S128x64_S32x4096x128_1_1_02_0_n_n none l r),
    unary main_v119 main_v124 (extractStridedSlice S32x64x4096 ![0, 0, 1] · slices_S32x64x4098_S32x64x4096_0_0_1),
    unary main_arg12 main_v125 (extractStridedSlice S128x64x1 ![0, 0, 1] · slices_S128x64x3_S128x64x1_0_0_1),
    reshape main_v125 main_v126 (rfl : (.f32 : EltTy) = .f32) shapeCasts_S128x64x1_S128x64,
    binary main_v124 main_v126 main_v127 (fun l r => Host.dotGeneral dot_S32x64x4096_S128x64_S32x4096x128_1_1_02_0_n_n none l r),
    unary main_v119 main_v128 (extractStridedSlice S32x64x4096 ![0, 0, 2] · slices_S32x64x4098_S32x64x4096_0_0_2),
    unary main_arg12 main_v129 (extractStridedSlice S128x64x1 ![0, 0, 2] · slices_S128x64x3_S128x64x1_0_0_2),
    reshape main_v129 main_v130 (rfl : (.f32 : EltTy) = .f32) shapeCasts_S128x64x1_S128x64,
    binary main_v128 main_v130 main_v131 (fun l r => Host.dotGeneral dot_S32x64x4096_S128x64_S32x4096x128_1_1_02_0_n_n none l r),
    binary main_v123 main_v127 main_v132 addf,
    binary main_v132 main_v131 main_v133 addf,
    unary main_v133 main_v134 (transpose S32x128x4096 [0, 2, 1] · transposes_S32x4096x128_S32x128x4096_0_2_1),
    unary main_arg13 main_v135 (broadcastInDim S1x128x1 ![1] bcast_S128_S1x128x1_1),
    unary main_v135 main_v136 (broadcastInDim S32x128x4096 ![0, 1, 2] bcast_S1x128x1_S32x128x4096_0_1_2),
    binary main_v134 main_v136 main_v137 addf,
    nullary main_cst_16 (constant S_ .f32 0x00000000#32),
    unary main_cst_16 main_v138 (broadcastInDim S32x128x4096 ![] bcast_S_S32x128x4096),
    binary main_v137 main_v138 main_v139 maximumf ]

/-- What stretch 10 writes, in order. -/
abbrev wr10 : List (Ref sig .tc) :=
  [main_cst_15, main_v119, main_v120, main_v121, main_v122, main_v123, main_v124, main_v125, main_v126, main_v127, main_v128, main_v129, main_v130, main_v131, main_v132, main_v133, main_v134, main_v135, main_v136, main_v137, main_cst_16, main_v138, main_v139]

/-- Stretch 11 of the reference's operations. -/
def ops11 : List (HloOp τ sig (Elt F)) :=
  [ unary main_arg14 main_v140 (Host.reverse [2]),
    unary main_v140 main_v141 (transpose S64x128x4 [1, 0, 2] · transposes_S128x64x4_S64x128x4_1_0_2),
    nullary main_cst_17 (constant S_ .f32 0x00000000#32),
    binary main_v139 main_cst_17 main_v142 (fun x v => pad S32x128x8195 ![0, 0, 2] ![0, 0, 2] ![0, 0, 1] x v pads_S32x128x4096_S32x128x8195_000_000_221 h_S_),
    unary main_v142 main_v143 (extractStridedSlice S32x128x8192 ![0, 0, 0] · slices_S32x128x8195_S32x128x8192_0_0_0),
    unary main_v141 main_v144 (extractStridedSlice S64x128x1 ![0, 0, 0] · slices_S64x128x4_S64x128x1_0_0_0),
    reshape main_v144 main_v145 (rfl : (.f32 : EltTy) = .f32) shapeCasts_S64x128x1_S64x128,
    binary main_v143 main_v145 main_v146 (fun l r => Host.dotGeneral dot_S32x128x8192_S64x128_S32x8192x64_1_1_02_0_n_n none l r),
    unary main_v142 main_v147 (extractStridedSlice S32x128x8192 ![0, 0, 1] · slices_S32x128x8195_S32x128x8192_0_0_1),
    unary main_v141 main_v148 (extractStridedSlice S64x128x1 ![0, 0, 1] · slices_S64x128x4_S64x128x1_0_0_1),
    reshape main_v148 main_v149 (rfl : (.f32 : EltTy) = .f32) shapeCasts_S64x128x1_S64x128,
    binary main_v147 main_v149 main_v150 (fun l r => Host.dotGeneral dot_S32x128x8192_S64x128_S32x8192x64_1_1_02_0_n_n none l r),
    unary main_v142 main_v151 (extractStridedSlice S32x128x8192 ![0, 0, 2] · slices_S32x128x8195_S32x128x8192_0_0_2),
    unary main_v141 main_v152 (extractStridedSlice S64x128x1 ![0, 0, 2] · slices_S64x128x4_S64x128x1_0_0_2),
    reshape main_v152 main_v153 (rfl : (.f32 : EltTy) = .f32) shapeCasts_S64x128x1_S64x128,
    binary main_v151 main_v153 main_v154 (fun l r => Host.dotGeneral dot_S32x128x8192_S64x128_S32x8192x64_1_1_02_0_n_n none l r),
    unary main_v142 main_v155 (extractStridedSlice S32x128x8192 ![0, 0, 3] · slices_S32x128x8195_S32x128x8192_0_0_3),
    unary main_v141 main_v156 (extractStridedSlice S64x128x1 ![0, 0, 3] · slices_S64x128x4_S64x128x1_0_0_3),
    reshape main_v156 main_v157 (rfl : (.f32 : EltTy) = .f32) shapeCasts_S64x128x1_S64x128,
    binary main_v155 main_v157 main_v158 (fun l r => Host.dotGeneral dot_S32x128x8192_S64x128_S32x8192x64_1_1_02_0_n_n none l r),
    binary main_v146 main_v150 main_v159 addf,
    binary main_v159 main_v154 main_v160 addf,
    binary main_v160 main_v158 main_v161 addf,
    unary main_v161 main_v162 (transpose S32x64x8192 [0, 2, 1] · transposes_S32x8192x64_S32x64x8192_0_2_1),
    unary main_arg15 main_v163 (broadcastInDim S1x64x1 ![1] bcast_S64_S1x64x1_1),
    unary main_v163 main_v164 (broadcastInDim S32x64x8192 ![0, 1, 2] bcast_S1x64x1_S32x64x8192_0_1_2),
    binary main_v162 main_v164 main_v165 addf,
    nullary main_cst_18 (constant S_ .f32 0x00000000#32),
    unary main_cst_18 main_v166 (broadcastInDim S32x64x8192 ![] bcast_S_S32x64x8192),
    binary main_v165 main_v166 main_v167 maximumf ]

/-- What stretch 11 writes, in order. -/
abbrev wr11 : List (Ref sig .tc) :=
  [main_v140, main_v141, main_cst_17, main_v142, main_v143, main_v144, main_v145, main_v146, main_v147, main_v148, main_v149, main_v150, main_v151, main_v152, main_v153, main_v154, main_v155, main_v156, main_v157, main_v158, main_v159, main_v160, main_v161, main_v162, main_v163, main_v164, main_v165, main_cst_18, main_v166, main_v167]

/-- Stretch 12 of the reference's operations. -/
def ops12 : List (HloOp τ sig (Elt F)) :=
  [ unary main_arg16 main_v168 (Host.reverse [2]),
    unary main_v168 main_v169 (transpose S1x64x4 [1, 0, 2] · transposes_S64x1x4_S1x64x4_1_0_2),
    nullary main_cst_19 (constant S_ .f32 0x00000000#32),
    binary main_v167 main_cst_19 main_v170 (fun x v => pad S32x64x16387 ![0, 0, 2] ![0, 0, 2] ![0, 0, 1] x v pads_S32x64x8192_S32x64x16387_000_000_221 h_S_),
    unary main_v170 main_v171 (extractStridedSlice S32x64x16384 ![0, 0, 0] · slices_S32x64x16387_S32x64x16384_0_0_0),
    unary main_v169 main_v172 (extractStridedSlice S1x64x1 ![0, 0, 0] · slices_S1x64x4_S1x64x1_0_0_0),
    reshape main_v172 main_v173 (rfl : (.f32 : EltTy) = .f32) shapeCasts_S1x64x1_S1x64,
    binary main_v171 main_v173 main_v174 (fun l r => Host.dotGeneral dot_S32x64x16384_S1x64_S32x16384x1_1_1_02_0_n_n none l r),
    unary main_v170 main_v175 (extractStridedSlice S32x64x16384 ![0, 0, 1] · slices_S32x64x16387_S32x64x16384_0_0_1),
    unary main_v169 main_v176 (extractStridedSlice S1x64x1 ![0, 0, 1] · slices_S1x64x4_S1x64x1_0_0_1),
    reshape main_v176 main_v177 (rfl : (.f32 : EltTy) = .f32) shapeCasts_S1x64x1_S1x64,
    binary main_v175 main_v177 main_v178 (fun l r => Host.dotGeneral dot_S32x64x16384_S1x64_S32x16384x1_1_1_02_0_n_n none l r),
    unary main_v170 main_v179 (extractStridedSlice S32x64x16384 ![0, 0, 2] · slices_S32x64x16387_S32x64x16384_0_0_2),
    unary main_v169 main_v180 (extractStridedSlice S1x64x1 ![0, 0, 2] · slices_S1x64x4_S1x64x1_0_0_2),
    reshape main_v180 main_v181 (rfl : (.f32 : EltTy) = .f32) shapeCasts_S1x64x1_S1x64,
    binary main_v179 main_v181 main_v182 (fun l r => Host.dotGeneral dot_S32x64x16384_S1x64_S32x16384x1_1_1_02_0_n_n none l r),
    unary main_v170 main_v183 (extractStridedSlice S32x64x16384 ![0, 0, 3] · slices_S32x64x16387_S32x64x16384_0_0_3),
    unary main_v169 main_v184 (extractStridedSlice S1x64x1 ![0, 0, 3] · slices_S1x64x4_S1x64x1_0_0_3),
    reshape main_v184 main_v185 (rfl : (.f32 : EltTy) = .f32) shapeCasts_S1x64x1_S1x64,
    binary main_v183 main_v185 main_v186 (fun l r => Host.dotGeneral dot_S32x64x16384_S1x64_S32x16384x1_1_1_02_0_n_n none l r),
    binary main_v174 main_v178 main_v187 addf,
    binary main_v187 main_v182 main_v188 addf,
    binary main_v188 main_v186 main_v189 addf,
    unary main_v189 main_v190 (transpose S32x1x16384 [0, 2, 1] · transposes_S32x16384x1_S32x1x16384_0_2_1),
    unary main_arg17 main_v191 (broadcastInDim S1x1x1 ![1] bcast_S1_S1x1x1_1),
    unary main_v191 main_v192 (broadcastInDim S32x1x16384 ![0, 1, 2] bcast_S1x1x1_S32x1x16384_0_1_2),
    binary main_v190 main_v192 main_v193 addf,
    unary main_v103 main_v194 (broadcastInDim S131072x1 ![0] bcast_S131072_S131072x1_0) ]

/-- What stretch 12 writes, in order. -/
abbrev wr12 : List (Ref sig .tc) :=
  [main_v168, main_v169, main_cst_19, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194]

end Cert.ReferenceIdeal.Value

end
-- ==== Proof.RefStages.lean ====
/- The reference's stages: each as one function of the arrays it reads. -/
module

public import proofs.«01_k».proof.Proof.Gen.ReferenceIdeal
public import Idealize.ShloMosaic.Lib.StableHlo.RunHlo
public import Idealize.ShloMosaic.Lib.StableHlo.RunRead
public import Idealize.ShloMosaic.Lib.Claim

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo Idealize.SL.Sem

variable {F : FTy → Type} [FloatOps F]

/-- First convolution and its rectifier. -/
def enc1 (a0 : FVec F S32x1x16384 .f32) (a1 : FVec F S64x1x4 .f32) (a2 : FVec F S64 .f32) : FVec F S32x64x8192 .f32 :=
  let cst : FVec F S_ .f32 := (constant S_ .f32 0x00000000#32)
  let v0 : FVec F S32x1x16386 .f32 := pad S32x1x16386 ![0, 0, 1] ![0, 0, 1] ![0, 0, 0] a0 cst pads_S32x1x16384_S32x1x16386_000_000_110 h_S_
  let v1 : FVec F S32x1x8192 .f32 := Host.slice S32x1x8192 ![0, 0, 0] ![1, 1, 2] v0 slicesBy_S32x1x16386_S32x1x8192_0s1_0s1_0s2
  let v2 : FVec F S64x1x1 .f32 := extractStridedSlice S64x1x1 ![0, 0, 0] a1 slices_S64x1x4_S64x1x1_0_0_0
  let v3 : FVec F S64x1 .f32 := shapeCast S64x1 v2 shapeCasts_S64x1x1_S64x1
  let v4 : FVec F S32x8192x64 .f32 := Host.dotGeneral dot_S32x1x8192_S64x1_S32x8192x64_1_1_02_0_n_n none v1 v3
  let v5 : FVec F S32x1x8192 .f32 := Host.slice S32x1x8192 ![0, 0, 1] ![1, 1, 2] v0 slicesBy_S32x1x16386_S32x1x8192_0s1_0s1_1s2
  let v6 : FVec F S64x1x1 .f32 := extractStridedSlice S64x1x1 ![0, 0, 1] a1 slices_S64x1x4_S64x1x1_0_0_1
  let v7 : FVec F S64x1 .f32 := shapeCast S64x1 v6 shapeCasts_S64x1x1_S64x1
  let v8 : FVec F S32x8192x64 .f32 := Host.dotGeneral dot_S32x1x8192_S64x1_S32x8192x64_1_1_02_0_n_n none v5 v7
  let v9 : FVec F S32x1x8192 .f32 := Host.slice S32x1x8192 ![0, 0, 2] ![1, 1, 2] v0 slicesBy_S32x1x16386_S32x1x8192_0s1_0s1_2s2
  let v10 : FVec F S64x1x1 .f32 := extractStridedSlice S64x1x1 ![0, 0, 2] a1 slices_S64x1x4_S64x1x1_0_0_2
  let v11 : FVec F S64x1 .f32 := shapeCast S64x1 v10 shapeCasts_S64x1x1_S64x1
  let v12 : FVec F S32x8192x64 .f32 := Host.dotGeneral dot_S32x1x8192_S64x1_S32x8192x64_1_1_02_0_n_n none v9 v11
  let v13 : FVec F S32x1x8192 .f32 := Host.slice S32x1x8192 ![0, 0, 3] ![1, 1, 2] v0 slicesBy_S32x1x16386_S32x1x8192_0s1_0s1_3s2
  let v14 : FVec F S64x1x1 .f32 := extractStridedSlice S64x1x1 ![0, 0, 3] a1 slices_S64x1x4_S64x1x1_0_0_3
  let v15 : FVec F S64x1 .f32 := shapeCast S64x1 v14 shapeCasts_S64x1x1_S64x1
  let v16 : FVec F S32x8192x64 .f32 := Host.dotGeneral dot_S32x1x8192_S64x1_S32x8192x64_1_1_02_0_n_n none v13 v15
  let v17 : FVec F S32x8192x64 .f32 := addf v4 v8
  let v18 : FVec F S32x8192x64 .f32 := addf v17 v12
  let v19 : FVec F S32x8192x64 .f32 := addf v18 v16
  let v20 : FVec F S32x64x8192 .f32 := transpose S32x64x8192 [0, 2, 1] v19 transposes_S32x8192x64_S32x64x8192_0_2_1
  let v21 : FVec F S1x64x1 .f32 := (broadcastInDim S1x64x1 ![1] bcast_S64_S1x64x1_1) a2
  let v22 : FVec F S32x64x8192 .f32 := (broadcastInDim S32x64x8192 ![0, 1, 2] bcast_S1x64x1_S32x64x8192_0_1_2) v21
  let v23 : FVec F S32x64x8192 .f32 := addf v20 v22
  let cst_0 : FVec F S_ .f32 := (constant S_ .f32 0x00000000#32)
  let v24 : FVec F S32x64x8192 .f32 := (broadcastInDim S32x64x8192 ![] bcast_S_S32x64x8192) cst_0
  maximumf v23 v24

/-- Second convolution and its rectifier. -/
def enc2 (a3 : FVec F S128x64x4 .f32) (a4 : FVec F S128 .f32) (v25 : FVec F S32x64x8192 .f32) : FVec F S32x128x4096 .f32 :=
  let cst_1 : FVec F S_ .f32 := (constant S_ .f32 0x00000000#32)
  let v26 : FVec F S32x64x8194 .f32 := pad S32x64x8194 ![0, 0, 1] ![0, 0, 1] ![0, 0, 0] v25 cst_1 pads_S32x64x8192_S32x64x8194_000_000_110 h_S_
  let v27 : FVec F S32x64x4096 .f32 := Host.slice S32x64x4096 ![0, 0, 0] ![1, 1, 2] v26 slicesBy_S32x64x8194_S32x64x4096_0s1_0s1_0s2
  let v28 : FVec F S128x64x1 .f32 := extractStridedSlice S128x64x1 ![0, 0, 0] a3 slices_S128x64x4_S128x64x1_0_0_0
  let v29 : FVec F S128x64 .f32 := shapeCast S128x64 v28 shapeCasts_S128x64x1_S128x64
  let v30 : FVec F S32x4096x128 .f32 := Host.dotGeneral dot_S32x64x4096_S128x64_S32x4096x128_1_1_02_0_n_n none v27 v29
  let v31 : FVec F S32x64x4096 .f32 := Host.slice S32x64x4096 ![0, 0, 1] ![1, 1, 2] v26 slicesBy_S32x64x8194_S32x64x4096_0s1_0s1_1s2
  let v32 : FVec F S128x64x1 .f32 := extractStridedSlice S128x64x1 ![0, 0, 1] a3 slices_S128x64x4_S128x64x1_0_0_1
  let v33 : FVec F S128x64 .f32 := shapeCast S128x64 v32 shapeCasts_S128x64x1_S128x64
  let v34 : FVec F S32x4096x128 .f32 := Host.dotGeneral dot_S32x64x4096_S128x64_S32x4096x128_1_1_02_0_n_n none v31 v33
  let v35 : FVec F S32x64x4096 .f32 := Host.slice S32x64x4096 ![0, 0, 2] ![1, 1, 2] v26 slicesBy_S32x64x8194_S32x64x4096_0s1_0s1_2s2
  let v36 : FVec F S128x64x1 .f32 := extractStridedSlice S128x64x1 ![0, 0, 2] a3 slices_S128x64x4_S128x64x1_0_0_2
  let v37 : FVec F S128x64 .f32 := shapeCast S128x64 v36 shapeCasts_S128x64x1_S128x64
  let v38 : FVec F S32x4096x128 .f32 := Host.dotGeneral dot_S32x64x4096_S128x64_S32x4096x128_1_1_02_0_n_n none v35 v37
  let v39 : FVec F S32x64x4096 .f32 := Host.slice S32x64x4096 ![0, 0, 3] ![1, 1, 2] v26 slicesBy_S32x64x8194_S32x64x4096_0s1_0s1_3s2
  let v40 : FVec F S128x64x1 .f32 := extractStridedSlice S128x64x1 ![0, 0, 3] a3 slices_S128x64x4_S128x64x1_0_0_3
  let v41 : FVec F S128x64 .f32 := shapeCast S128x64 v40 shapeCasts_S128x64x1_S128x64
  let v42 : FVec F S32x4096x128 .f32 := Host.dotGeneral dot_S32x64x4096_S128x64_S32x4096x128_1_1_02_0_n_n none v39 v41
  let v43 : FVec F S32x4096x128 .f32 := addf v30 v34
  let v44 : FVec F S32x4096x128 .f32 := addf v43 v38
  let v45 : FVec F S32x4096x128 .f32 := addf v44 v42
  let v46 : FVec F S32x128x4096 .f32 := transpose S32x128x4096 [0, 2, 1] v45 transposes_S32x4096x128_S32x128x4096_0_2_1
  let v47 : FVec F S1x128x1 .f32 := (broadcastInDim S1x128x1 ![1] bcast_S128_S1x128x1_1) a4
  let v48 : FVec F S32x128x4096 .f32 := (broadcastInDim S32x128x4096 ![0, 1, 2] bcast_S1x128x1_S32x128x4096_0_1_2) v47
  let v49 : FVec F S32x128x4096 .f32 := addf v46 v48
  let cst_2 : FVec F S_ .f32 := (constant S_ .f32 0x00000000#32)
  let v50 : FVec F S32x128x4096 .f32 := (broadcastInDim S32x128x4096 ![] bcast_S_S32x128x4096) cst_2
  maximumf v49 v50

/-- Third convolution and its rectifier. -/
def enc3 (a5 : FVec F S128x128x3 .f32) (a6 : FVec F S128 .f32) (v51 : FVec F S32x128x4096 .f32) : FVec F S32x128x4096 .f32 :=
  let cst_3 : FVec F S_ .f32 := (constant S_ .f32 0x00000000#32)
  let v52 : FVec F S32x128x4098 .f32 := pad S32x128x4098 ![0, 0, 1] ![0, 0, 1] ![0, 0, 0] v51 cst_3 pads_S32x128x4096_S32x128x4098_000_000_110 h_S_
  let v53 : FVec F S32x128x4096 .f32 := extractStridedSlice S32x128x4096 ![0, 0, 0] v52 slices_S32x128x4098_S32x128x4096_0_0_0
  let v54 : FVec F S128x128x1 .f32 := extractStridedSlice S128x128x1 ![0, 0, 0] a5 slices_S128x128x3_S128x128x1_0_0_0
  let v55 : FVec F S128x128 .f32 := shapeCast S128x128 v54 shapeCasts_S128x128x1_S128x128
  let v56 : FVec F S32x4096x128 .f32 := Host.dotGeneral dot_S32x128x4096_S128x128_S32x4096x128_1_1_02_0_n_n none v53 v55
  let v57 : FVec F S32x128x4096 .f32 := extractStridedSlice S32x128x4096 ![0, 0, 1] v52 slices_S32x128x4098_S32x128x4096_0_0_1
  let v58 : FVec F S128x128x1 .f32 := extractStridedSlice S128x128x1 ![0, 0, 1] a5 slices_S128x128x3_S128x128x1_0_0_1
  let v59 : FVec F S128x128 .f32 := shapeCast S128x128 v58 shapeCasts_S128x128x1_S128x128
  let v60 : FVec F S32x4096x128 .f32 := Host.dotGeneral dot_S32x128x4096_S128x128_S32x4096x128_1_1_02_0_n_n none v57 v59
  let v61 : FVec F S32x128x4096 .f32 := extractStridedSlice S32x128x4096 ![0, 0, 2] v52 slices_S32x128x4098_S32x128x4096_0_0_2
  let v62 : FVec F S128x128x1 .f32 := extractStridedSlice S128x128x1 ![0, 0, 2] a5 slices_S128x128x3_S128x128x1_0_0_2
  let v63 : FVec F S128x128 .f32 := shapeCast S128x128 v62 shapeCasts_S128x128x1_S128x128
  let v64 : FVec F S32x4096x128 .f32 := Host.dotGeneral dot_S32x128x4096_S128x128_S32x4096x128_1_1_02_0_n_n none v61 v63
  let v65 : FVec F S32x4096x128 .f32 := addf v56 v60
  let v66 : FVec F S32x4096x128 .f32 := addf v65 v64
  let v67 : FVec F S32x128x4096 .f32 := transpose S32x128x4096 [0, 2, 1] v66 transposes_S32x4096x128_S32x128x4096_0_2_1
  let v68 : FVec F S1x128x1 .f32 := (broadcastInDim S1x128x1 ![1] bcast_S128_S1x128x1_1) a6
  let v69 : FVec F S32x128x4096 .f32 := (broadcastInDim S32x128x4096 ![0, 1, 2] bcast_S1x128x1_S32x128x4096_0_1_2) v68
  let v70 : FVec F S32x128x4096 .f32 := addf v67 v69
  let cst_4 : FVec F S_ .f32 := (constant S_ .f32 0x00000000#32)
  let v71 : FVec F S32x128x4096 .f32 := (broadcastInDim S32x128x4096 ![] bcast_S_S32x128x4096) cst_4
  maximumf v70 v71

/-- Fourth convolution (one tap). -/
def enc4 (a7 : FVec F S64x128x1 .f32) (a8 : FVec F S64 .f32) (v72 : FVec F S32x128x4096 .f32) : FVec F S32x64x4096 .f32 :=
  let cst_5 : FVec F S_ .f32 := (constant S_ .f32 0x00000000#32)
  let v73 : FVec F S32x128x4096 .f32 := pad S32x128x4096 ![0, 0, 0] ![0, 0, 0] ![0, 0, 0] v72 cst_5 pads_S32x128x4096_S32x128x4096_000_000_000 h_S_
  let v74 : FVec F S64x128 .f32 := shapeCast S64x128 a7 shapeCasts_S64x128x1_S64x128
  let v75 : FVec F S32x4096x64 .f32 := Host.dotGeneral dot_S32x128x4096_S64x128_S32x4096x64_1_1_02_0_n_n none v73 v74
  let v76 : FVec F S32x64x4096 .f32 := transpose S32x64x4096 [0, 2, 1] v75 transposes_S32x4096x64_S32x64x4096_0_2_1
  let v77 : FVec F S1x64x1 .f32 := (broadcastInDim S1x64x1 ![1] bcast_S64_S1x64x1_1) a8
  let v78 : FVec F S32x64x4096 .f32 := (broadcastInDim S32x64x4096 ![0, 1, 2] bcast_S1x64x1_S32x64x4096_0_1_2) v77
  addf v76 v78

/-- The projection before the code book, positions by channels. -/
def inputs (a9 : FVec F S64x64x1 .f32) (a10 : FVec F S64 .f32) (v79 : FVec F S32x64x4096 .f32) : FVec F S32x4096x64 .f32 :=
  let cst_6 : FVec F S_ .f32 := (constant S_ .f32 0x00000000#32)
  let v80 : FVec F S32x64x4096 .f32 := pad S32x64x4096 ![0, 0, 0] ![0, 0, 0] ![0, 0, 0] v79 cst_6 pads_S32x64x4096_S32x64x4096_000_000_000 h_S_
  let v81 : FVec F S64x64 .f32 := shapeCast S64x64 a9 shapeCasts_S64x64x1_S64x64
  let v82 : FVec F S32x4096x64 .f32 := Host.dotGeneral dot_S32x64x4096_S64x64_S32x4096x64_1_1_02_0_n_n none v80 v81
  let v83 : FVec F S32x64x4096 .f32 := transpose S32x64x4096 [0, 2, 1] v82 transposes_S32x4096x64_S32x64x4096_0_2_1
  let v84 : FVec F S1x64x1 .f32 := (broadcastInDim S1x64x1 ![1] bcast_S64_S1x64x1_1) a10
  let v85 : FVec F S32x64x4096 .f32 := (broadcastInDim S32x64x4096 ![0, 1, 2] bcast_S1x64x1_S32x64x4096_0_1_2) v84
  let v86 : FVec F S32x64x4096 .f32 := addf v83 v85
  transpose S32x4096x64 [0, 2, 1] v86 transposes_S32x64x4096_S32x4096x64_0_2_1

/-- Squared distances of every position to every code. -/
def dist (a11 : FVec F S512x64 .f32) (v87 : FVec F S32x4096x64 .f32) : FVec F S131072x512 .f32 :=
  let v88 : FVec F S131072x64 .f32 := shapeCast S131072x64 v87 shapeCasts_S32x4096x64_S131072x64
  let v89 : FVec F S131072x64 .f32 := mulf v88 v88
  let cst_7 : FVec F S_ .f32 := (constant S_ .f32 0x00000000#32)
  let v90 : FVec F S131072 .f32 := Host.reduceAdd v89 cst_7 reducesTo_S131072x64_S131072_d1 h_S_
  let v91 : FVec F S131072x1 .f32 := (broadcastInDim S131072x1 ![0] bcast_S131072_S131072x1_0) v90
  let v92 : FVec F S512x64 .f32 := mulf a11 a11
  let cst_8 : FVec F S_ .f32 := (constant S_ .f32 0x00000000#32)
  let v93 : FVec F S512 .f32 := Host.reduceAdd v92 cst_8 reducesTo_S512x64_S512_d1 h_S_
  let v94 : FVec F S1x512 .f32 := (broadcastInDim S1x512 ![1] bcast_S512_S1x512_1) v93
  let v95 : FVec F S131072x512 .f32 := (broadcastInDim S131072x512 ![0, 1] bcast_S131072x1_S131072x512_0_1) v91
  let v96 : FVec F S131072x512 .f32 := (broadcastInDim S131072x512 ![0, 1] bcast_S1x512_S131072x512_0_1) v94
  let v97 : FVec F S131072x512 .f32 := addf v95 v96
  let v98 : FVec F S64x512 .f32 := transpose S64x512 [1, 0] a11 transposes_S512x64_S64x512_1_0
  let v99 : FVec F S131072x512 .f32 := Host.dotGeneral dot_S131072x64_S64x512_S131072x512_1_0_0_1_n_n none v88 v98
  let cst_9 : FVec F S_ .f32 := (constant S_ .f32 0x40000000#32)
  let v100 : FVec F S131072x512 .f32 := (broadcastInDim S131072x512 ![] bcast_S_S131072x512) cst_9
  let v101 : FVec F S131072x512 .f32 := mulf v100 v99
  subf v97 v101

/-- The nearest code of every position. -/
def code (v102 : FVec F S131072x512 .f32) : IVec S131072 32 :=
  let call0_v0 : IVec S131072x512 32 := (iotaInDim S131072x512 32 1)
  let call0_cst : FVec F S_ .f32 := (constant S_ .f32 0x7F800000#32)
  let call0_c : IVec S_ 32 := (constantI S_ 32 0#32)
  (fun x y u v j => (Host.argReduce reducer_argmin_f32_i32 x y u v reducesTo_S131072x512_S131072_d1 h_S_ j).2) v102 call0_v0 call0_cst call0_c

/-- The code book read at the codes. -/
def taken (a11 : FVec F S512x64 .f32) (v103 : IVec S131072 32) : FVec F S131072x64 .f32 :=
  let call1_c : IVec S_ 32 := (constantI S_ 32 0#32)
  let call1_v0 : IVec S131072 32 := (broadcastInDim S131072 ![] bcast_S_S131072) call1_c
  let call1_v1 : IVec S131072 1 := (cmpi .slt) v103 call1_v0
  let call1_c_0 : IVec S_ 32 := (constantI S_ 32 512#32)
  let call1_v2 : IVec S131072 32 := (broadcastInDim S131072 ![] bcast_S_S131072) call1_c_0
  let call1_v3 : IVec S131072 32 := addi v103 call1_v2
  let call1_v4 : IVec S131072 32 := select call1_v1 call1_v3 v103
  let call1_v5 : IVec S131072x1 32 := (broadcastInDim S131072x1 ![0] bcast_S131072_S131072x1_0) call1_v4
  let call1_c_1 : IVec S1 32 := (constantI S1 32 511#32)
  let call1_c_2 : IVec S_ 32 := (constantI S_ 32 0#32)
  let call1_v6 : IVec S131072x1 32 := (broadcastInDim S131072x1 ![] bcast_S_S131072x1) call1_c_2
  let call1_v7 : IVec S131072x1 1 := (cmpi .sge) call1_v5 call1_v6
  let call1_v8 : IVec S1x1 32 := (broadcastInDim S1x1 ![1] bcast_S1_S1x1_1) call1_c_1
  let call1_v9 : IVec S131072x1 32 := (broadcastInDim S131072x1 ![0, 1] bcast_S1x1_S131072x1_0_1) call1_v8
  let call1_v10 : IVec S131072x1 1 := (cmpi .sle) call1_v5 call1_v9
  let call1_v11 : IVec S131072x1 1 := andi call1_v7 call1_v10
  let call1_c_3 : IVec S_ 1 := (constantI S_ 1 1#1)
  let call1_v12 : IVec S131072 1 := Host.reduce IntOp.andi call1_v11 call1_c_3 reducesTo_S131072x1_S131072_d1 h_S_
  let call1_v13 : FVec F S131072x64 .f32 := Host.gather gather_S512x64_S131072x1_S131072x64_1_0_n_n_0_1_164 a11 call1_v5
  let call1_v14 : IVec S131072x64 1 := (broadcastInDim S131072x64 ![0] bcast_S131072_S131072x64_0) call1_v12
  let call1_cst : FVec F S_ .f32 := (constant S_ .f32 0x7FC00000#32)
  let call1_v15 : FVec F S131072x64 .f32 := (broadcastInDim S131072x64 ![] bcast_S_S131072x64) call1_cst
  select call1_v14 call1_v13 call1_v15

/-- The loss, from the code vectors and the encoder's output. -/
def loss (v87 : FVec F S32x4096x64 .f32) (v104 : FVec F S131072x64 .f32) : FVec F S_ .f32 :=
  let v105 : FVec F S32x4096x64 .f32 := shapeCast S32x4096x64 v104 shapeCasts_S131072x64_S32x4096x64
  let v106 : FVec F S32x4096x64 .f32 := subf v105 v87
  let v107 : FVec F S32x4096x64 .f32 := mulf v106 v106
  let cst_10 : FVec F S_ .f32 := (constant S_ .f32 0x00000000#32)
  let v108 : FVec F S_ .f32 := Host.reduceAdd v107 cst_10 reducesTo_S32x4096x64_S_d0_1_2 h_S_
  let cst_11 : FVec F S_ .f32 := (constant S_ .f32 0x4B000000#32)
  let v109 : FVec F S_ .f32 := Host.divf v108 cst_11
  let v110 : FVec F S32x4096x64 .f32 := subf v105 v87
  let v111 : FVec F S32x4096x64 .f32 := mulf v110 v110
  let cst_12 : FVec F S_ .f32 := (constant S_ .f32 0x00000000#32)
  let v112 : FVec F S_ .f32 := Host.reduceAdd v111 cst_12 reducesTo_S32x4096x64_S_d0_1_2 h_S_
  let cst_13 : FVec F S_ .f32 := (constant S_ .f32 0x4B000000#32)
  let v113 : FVec F S_ .f32 := Host.divf v112 cst_13
  let cst_14 : FVec F S_ .f32 := (constant S_ .f32 0x3E800000#32)
  let v114 : FVec F S_ .f32 := mulf cst_14 v109
  addf v113 v114

/-- The straight-through code vectors, channels by positions. -/
def quant (v87 : FVec F S32x4096x64 .f32) (v104 : FVec F S131072x64 .f32) : FVec F S32x64x4096 .f32 :=
  let v105 : FVec F S32x4096x64 .f32 := shapeCast S32x4096x64 v104 shapeCasts_S131072x64_S32x4096x64
  let v116 : FVec F S32x4096x64 .f32 := subf v105 v87
  let v117 : FVec F S32x4096x64 .f32 := addf v87 v116
  transpose S32x64x4096 [0, 2, 1] v117 transposes_S32x4096x64_S32x64x4096_0_2_1

/-- First convolution of the decoder and its rectifier. -/
def dec1 (a12 : FVec F S128x64x3 .f32) (a13 : FVec F S128 .f32) (v118 : FVec F S32x64x4096 .f32) : FVec F S32x128x4096 .f32 :=
  let cst_15 : FVec F S_ .f32 := (constant S_ .f32 0x00000000#32)
  let v119 : FVec F S32x64x4098 .f32 := pad S32x64x4098 ![0, 0, 1] ![0, 0, 1] ![0, 0, 0] v118 cst_15 pads_S32x64x4096_S32x64x4098_000_000_110 h_S_
  let v120 : FVec F S32x64x4096 .f32 := extractStridedSlice S32x64x4096 ![0, 0, 0] v119 slices_S32x64x4098_S32x64x4096_0_0_0
  let v121 : FVec F S128x64x1 .f32 := extractStridedSlice S128x64x1 ![0, 0, 0] a12 slices_S128x64x3_S128x64x1_0_0_0
  let v122 : FVec F S128x64 .f32 := shapeCast S128x64 v121 shapeCasts_S128x64x1_S128x64
  let v123 : FVec F S32x4096x128 .f32 := Host.dotGeneral dot_S32x64x4096_S128x64_S32x4096x128_1_1_02_0_n_n none v120 v122
  let v124 : FVec F S32x64x4096 .f32 := extractStridedSlice S32x64x4096 ![0, 0, 1] v119 slices_S32x64x4098_S32x64x4096_0_0_1
  let v125 : FVec F S128x64x1 .f32 := extractStridedSlice S128x64x1 ![0, 0, 1] a12 slices_S128x64x3_S128x64x1_0_0_1
  let v126 : FVec F S128x64 .f32 := shapeCast S128x64 v125 shapeCasts_S128x64x1_S128x64
  let v127 : FVec F S32x4096x128 .f32 := Host.dotGeneral dot_S32x64x4096_S128x64_S32x4096x128_1_1_02_0_n_n none v124 v126
  let v128 : FVec F S32x64x4096 .f32 := extractStridedSlice S32x64x4096 ![0, 0, 2] v119 slices_S32x64x4098_S32x64x4096_0_0_2
  let v129 : FVec F S128x64x1 .f32 := extractStridedSlice S128x64x1 ![0, 0, 2] a12 slices_S128x64x3_S128x64x1_0_0_2
  let v130 : FVec F S128x64 .f32 := shapeCast S128x64 v129 shapeCasts_S128x64x1_S128x64
  let v131 : FVec F S32x4096x128 .f32 := Host.dotGeneral dot_S32x64x4096_S128x64_S32x4096x128_1_1_02_0_n_n none v128 v130
  let v132 : FVec F S32x4096x128 .f32 := addf v123 v127
  let v133 : FVec F S32x4096x128 .f32 := addf v132 v131
  let v134 : FVec F S32x128x4096 .f32 := transpose S32x128x4096 [0, 2, 1] v133 transposes_S32x4096x128_S32x128x4096_0_2_1
  let v135 : FVec F S1x128x1 .f32 := (broadcastInDim S1x128x1 ![1] bcast_S128_S1x128x1_1) a13
  let v136 : FVec F S32x128x4096 .f32 := (broadcastInDim S32x128x4096 ![0, 1, 2] bcast_S1x128x1_S32x128x4096_0_1_2) v135
  let v137 : FVec F S32x128x4096 .f32 := addf v134 v136
  let cst_16 : FVec F S_ .f32 := (constant S_ .f32 0x00000000#32)
  let v138 : FVec F S32x128x4096 .f32 := (broadcastInDim S32x128x4096 ![] bcast_S_S32x128x4096) cst_16
  maximumf v137 v138

/-- First transposed convolution and its rectifier. -/
def dec2 (a14 : FVec F S128x64x4 .f32) (a15 : FVec F S64 .f32) (v139 : FVec F S32x128x4096 .f32) : FVec F S32x64x8192 .f32 :=
  let v140 : FVec F S128x64x4 .f32 := (Host.reverse [2]) a14
  let v141 : FVec F S64x128x4 .f32 := transpose S64x128x4 [1, 0, 2] v140 transposes_S128x64x4_S64x128x4_1_0_2
  let cst_17 : FVec F S_ .f32 := (constant S_ .f32 0x00000000#32)
  let v142 : FVec F S32x128x8195 .f32 := pad S32x128x8195 ![0, 0, 2] ![0, 0, 2] ![0, 0, 1] v139 cst_17 pads_S32x128x4096_S32x128x8195_000_000_221 h_S_
  let v143 : FVec F S32x128x8192 .f32 := extractStridedSlice S32x128x8192 ![0, 0, 0] v142 slices_S32x128x8195_S32x128x8192_0_0_0
  let v144 : FVec F S64x128x1 .f32 := extractStridedSlice S64x128x1 ![0, 0, 0] v141 slices_S64x128x4_S64x128x1_0_0_0
  let v145 : FVec F S64x128 .f32 := shapeCast S64x128 v144 shapeCasts_S64x128x1_S64x128
  let v146 : FVec F S32x8192x64 .f32 := Host.dotGeneral dot_S32x128x8192_S64x128_S32x8192x64_1_1_02_0_n_n none v143 v145
  let v147 : FVec F S32x128x8192 .f32 := extractStridedSlice S32x128x8192 ![0, 0, 1] v142 slices_S32x128x8195_S32x128x8192_0_0_1
  let v148 : FVec F S64x128x1 .f32 := extractStridedSlice S64x128x1 ![0, 0, 1] v141 slices_S64x128x4_S64x128x1_0_0_1
  let v149 : FVec F S64x128 .f32 := shapeCast S64x128 v148 shapeCasts_S64x128x1_S64x128
  let v150 : FVec F S32x8192x64 .f32 := Host.dotGeneral dot_S32x128x8192_S64x128_S32x8192x64_1_1_02_0_n_n none v147 v149
  let v151 : FVec F S32x128x8192 .f32 := extractStridedSlice S32x128x8192 ![0, 0, 2] v142 slices_S32x128x8195_S32x128x8192_0_0_2
  let v152 : FVec F S64x128x1 .f32 := extractStridedSlice S64x128x1 ![0, 0, 2] v141 slices_S64x128x4_S64x128x1_0_0_2
  let v153 : FVec F S64x128 .f32 := shapeCast S64x128 v152 shapeCasts_S64x128x1_S64x128
  let v154 : FVec F S32x8192x64 .f32 := Host.dotGeneral dot_S32x128x8192_S64x128_S32x8192x64_1_1_02_0_n_n none v151 v153
  let v155 : FVec F S32x128x8192 .f32 := extractStridedSlice S32x128x8192 ![0, 0, 3] v142 slices_S32x128x8195_S32x128x8192_0_0_3
  let v156 : FVec F S64x128x1 .f32 := extractStridedSlice S64x128x1 ![0, 0, 3] v141 slices_S64x128x4_S64x128x1_0_0_3
  let v157 : FVec F S64x128 .f32 := shapeCast S64x128 v156 shapeCasts_S64x128x1_S64x128
  let v158 : FVec F S32x8192x64 .f32 := Host.dotGeneral dot_S32x128x8192_S64x128_S32x8192x64_1_1_02_0_n_n none v155 v157
  let v159 : FVec F S32x8192x64 .f32 := addf v146 v150
  let v160 : FVec F S32x8192x64 .f32 := addf v159 v154
  let v161 : FVec F S32x8192x64 .f32 := addf v160 v158
  let v162 : FVec F S32x64x8192 .f32 := transpose S32x64x8192 [0, 2, 1] v161 transposes_S32x8192x64_S32x64x8192_0_2_1
  let v163 : FVec F S1x64x1 .f32 := (broadcastInDim S1x64x1 ![1] bcast_S64_S1x64x1_1) a15
  let v164 : FVec F S32x64x8192 .f32 := (broadcastInDim S32x64x8192 ![0, 1, 2] bcast_S1x64x1_S32x64x8192_0_1_2) v163
  let v165 : FVec F S32x64x8192 .f32 := addf v162 v164
  let cst_18 : FVec F S_ .f32 := (constant S_ .f32 0x00000000#32)
  let v166 : FVec F S32x64x8192 .f32 := (broadcastInDim S32x64x8192 ![] bcast_S_S32x64x8192) cst_18
  maximumf v165 v166

/-- Second transposed convolution. -/
def dec3 (a16 : FVec F S64x1x4 .f32) (a17 : FVec F S1 .f32) (v167 : FVec F S32x64x8192 .f32) : FVec F S32x1x16384 .f32 :=
  let v168 : FVec F S64x1x4 .f32 := (Host.reverse [2]) a16
  let v169 : FVec F S1x64x4 .f32 := transpose S1x64x4 [1, 0, 2] v168 transposes_S64x1x4_S1x64x4_1_0_2
  let cst_19 : FVec F S_ .f32 := (constant S_ .f32 0x00000000#32)
  let v170 : FVec F S32x64x16387 .f32 := pad S32x64x16387 ![0, 0, 2] ![0, 0, 2] ![0, 0, 1] v167 cst_19 pads_S32x64x8192_S32x64x16387_000_000_221 h_S_
  let v171 : FVec F S32x64x16384 .f32 := extractStridedSlice S32x64x16384 ![0, 0, 0] v170 slices_S32x64x16387_S32x64x16384_0_0_0
  let v172 : FVec F S1x64x1 .f32 := extractStridedSlice S1x64x1 ![0, 0, 0] v169 slices_S1x64x4_S1x64x1_0_0_0
  let v173 : FVec F S1x64 .f32 := shapeCast S1x64 v172 shapeCasts_S1x64x1_S1x64
  let v174 : FVec F S32x16384x1 .f32 := Host.dotGeneral dot_S32x64x16384_S1x64_S32x16384x1_1_1_02_0_n_n none v171 v173
  let v175 : FVec F S32x64x16384 .f32 := extractStridedSlice S32x64x16384 ![0, 0, 1] v170 slices_S32x64x16387_S32x64x16384_0_0_1
  let v176 : FVec F S1x64x1 .f32 := extractStridedSlice S1x64x1 ![0, 0, 1] v169 slices_S1x64x4_S1x64x1_0_0_1
  let v177 : FVec F S1x64 .f32 := shapeCast S1x64 v176 shapeCasts_S1x64x1_S1x64
  let v178 : FVec F S32x16384x1 .f32 := Host.dotGeneral dot_S32x64x16384_S1x64_S32x16384x1_1_1_02_0_n_n none v175 v177
  let v179 : FVec F S32x64x16384 .f32 := extractStridedSlice S32x64x16384 ![0, 0, 2] v170 slices_S32x64x16387_S32x64x16384_0_0_2
  let v180 : FVec F S1x64x1 .f32 := extractStridedSlice S1x64x1 ![0, 0, 2] v169 slices_S1x64x4_S1x64x1_0_0_2
  let v181 : FVec F S1x64 .f32 := shapeCast S1x64 v180 shapeCasts_S1x64x1_S1x64
  let v182 : FVec F S32x16384x1 .f32 := Host.dotGeneral dot_S32x64x16384_S1x64_S32x16384x1_1_1_02_0_n_n none v179 v181
  let v183 : FVec F S32x64x16384 .f32 := extractStridedSlice S32x64x16384 ![0, 0, 3] v170 slices_S32x64x16387_S32x64x16384_0_0_3
  let v184 : FVec F S1x64x1 .f32 := extractStridedSlice S1x64x1 ![0, 0, 3] v169 slices_S1x64x4_S1x64x1_0_0_3
  let v185 : FVec F S1x64 .f32 := shapeCast S1x64 v184 shapeCasts_S1x64x1_S1x64
  let v186 : FVec F S32x16384x1 .f32 := Host.dotGeneral dot_S32x64x16384_S1x64_S32x16384x1_1_1_02_0_n_n none v183 v185
  let v187 : FVec F S32x16384x1 .f32 := addf v174 v178
  let v188 : FVec F S32x16384x1 .f32 := addf v187 v182
  let v189 : FVec F S32x16384x1 .f32 := addf v188 v186
  let v190 : FVec F S32x1x16384 .f32 := transpose S32x1x16384 [0, 2, 1] v189 transposes_S32x16384x1_S32x1x16384_0_2_1
  let v191 : FVec F S1x1x1 .f32 := (broadcastInDim S1x1x1 ![1] bcast_S1_S1x1x1_1) a17
  let v192 : FVec F S32x1x16384 .f32 := (broadcastInDim S32x1x16384 ![0, 1, 2] bcast_S1x1x1_S32x1x16384_0_1_2) v191
  addf v190 v192

/-- The codes as one column. -/
def column (v103 : IVec S131072 32) : IVec S131072x1 32 :=
  (broadcastInDim S131072x1 ![0] bcast_S131072_S131072x1_0) v103

end Cert.ReferenceIdeal.Value

end
-- ==== Proof.RefRun.lean ====
/- The reference's run: every buffer ends at its operations' results, the arguments are left alone, and the three
   results are the stages of RefStages.lean, one of another. -/
module

public import proofs.«01_k».proof.Proof.RefOps
public import proofs.«01_k».proof.Proof.RefStages

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo Idealize.SL.Sem

variable {F : FTy → Type} [FloatOps F]

/-- All of the reference's operations, in order. -/
abbrev ops : List (HloOp τ sig (Elt F)) :=
  ops1 ++ (ops2 ++ (ops3 ++ (ops4 ++ (ops5 ++ (ops6 ++ (ops7 ++ (ops8 ++ (ops9 ++ (ops10 ++ (ops11 ++ ops12))))))))))

set_option maxRecDepth 1000000 in
/-- The reference's `main` is that straight line. -/
theorem main_eq (d : Dev nD) : IsSeq (main (F := F) d) ops := rfl

/-- Two lines run one after the other. -/
theorem after_cat (l₁ l₂ : List (HloOp τ sig (Elt F))) (V : Valuation τ sig (Elt F)) :
    after (l₁ ++ l₂) V = after l₂ (after l₁ V) := by
  induction l₁ generalizing V with
  | nil => rfl
  | cons op l ih => exact ih _

/-- Stretch 1 leaves alone what it doesn't write. -/
theorem kept1 {r : Ref sig .tc} (hr : r ∉ wr1) (V : Valuation τ sig (Elt F)) :
    after ops1 V (r : DevRef τ sig) = V (r : DevRef τ sig) :=
  after_unwritten wr1 rfl hr V

/-- Stretch 2 leaves alone what it doesn't write. -/
theorem kept2 {r : Ref sig .tc} (hr : r ∉ wr2) (V : Valuation τ sig (Elt F)) :
    after ops2 V (r : DevRef τ sig) = V (r : DevRef τ sig) :=
  after_unwritten wr2 rfl hr V

/-- Stretch 3 leaves alone what it doesn't write. -/
theorem kept3 {r : Ref sig .tc} (hr : r ∉ wr3) (V : Valuation τ sig (Elt F)) :
    after ops3 V (r : DevRef τ sig) = V (r : DevRef τ sig) :=
  after_unwritten wr3 rfl hr V

/-- Stretch 4 leaves alone what it doesn't write. -/
theorem kept4 {r : Ref sig .tc} (hr : r ∉ wr4) (V : Valuation τ sig (Elt F)) :
    after ops4 V (r : DevRef τ sig) = V (r : DevRef τ sig) :=
  after_unwritten wr4 rfl hr V

/-- Stretch 5 leaves alone what it doesn't write. -/
theorem kept5 {r : Ref sig .tc} (hr : r ∉ wr5) (V : Valuation τ sig (Elt F)) :
    after ops5 V (r : DevRef τ sig) = V (r : DevRef τ sig) :=
  after_unwritten wr5 rfl hr V

/-- Stretch 6 leaves alone what it doesn't write. -/
theorem kept6 {r : Ref sig .tc} (hr : r ∉ wr6) (V : Valuation τ sig (Elt F)) :
    after ops6 V (r : DevRef τ sig) = V (r : DevRef τ sig) :=
  after_unwritten wr6 rfl hr V

/-- Stretch 7 leaves alone what it doesn't write. -/
theorem kept7 {r : Ref sig .tc} (hr : r ∉ wr7) (V : Valuation τ sig (Elt F)) :
    after ops7 V (r : DevRef τ sig) = V (r : DevRef τ sig) :=
  after_unwritten wr7 rfl hr V

/-- Stretch 8 leaves alone what it doesn't write. -/
theorem kept8 {r : Ref sig .tc} (hr : r ∉ wr8) (V : Valuation τ sig (Elt F)) :
    after ops8 V (r : DevRef τ sig) = V (r : DevRef τ sig) :=
  after_unwritten wr8 rfl hr V

/-- Stretch 9 leaves alone what it doesn't write. -/
theorem kept9 {r : Ref sig .tc} (hr : r ∉ wr9) (V : Valuation τ sig (Elt F)) :
    after ops9 V (r : DevRef τ sig) = V (r : DevRef τ sig) :=
  after_unwritten wr9 rfl hr V

/-- Stretch 10 leaves alone what it doesn't write. -/
theorem kept10 {r : Ref sig .tc} (hr : r ∉ wr10) (V : Valuation τ sig (Elt F)) :
    after ops10 V (r : DevRef τ sig) = V (r : DevRef τ sig) :=
  after_unwritten wr10 rfl hr V

/-- Stretch 11 leaves alone what it doesn't write. -/
theorem kept11 {r : Ref sig .tc} (hr : r ∉ wr11) (V : Valuation τ sig (Elt F)) :
    after ops11 V (r : DevRef τ sig) = V (r : DevRef τ sig) :=
  after_unwritten wr11 rfl hr V

/-- Stretch 12 leaves alone what it doesn't write. -/
theorem kept12 {r : Ref sig .tc} (hr : r ∉ wr12) (V : Valuation τ sig (Elt F)) :
    after ops12 V (r : DevRef τ sig) = V (r : DevRef τ sig) :=
  after_unwritten wr12 rfl hr V

/-- What stretch 1 leaves at `main_v25`. -/
theorem enc1_eq (V : Valuation τ sig (Elt F)) :
    after ops1 V (main_v25 : DevRef τ sig) = enc1 (V (main_arg0 : DevRef τ sig)) (V (main_arg1 : DevRef τ sig)) (V (main_arg2 : DevRef τ sig)) := by
  unfold ops1
  after_results
  rfl

/-- What stretch 2 leaves at `main_v51`. -/
theorem enc2_eq (V : Valuation τ sig (Elt F)) :
    after ops2 V (main_v51 : DevRef τ sig) = enc2 (V (main_arg3 : DevRef τ sig)) (V (main_arg4 : DevRef τ sig)) (V (main_v25 : DevRef τ sig)) := by
  unfold ops2
  after_results
  rfl

/-- What stretch 3 leaves at `main_v72`. -/
theorem enc3_eq (V : Valuation τ sig (Elt F)) :
    after ops3 V (main_v72 : DevRef τ sig) = enc3 (V (main_arg5 : DevRef τ sig)) (V (main_arg6 : DevRef τ sig)) (V (main_v51 : DevRef τ sig)) := by
  unfold ops3
  after_results
  rfl

/-- What stretch 4 leaves at `main_v79`. -/
theorem enc4_eq (V : Valuation τ sig (Elt F)) :
    after ops4 V (main_v79 : DevRef τ sig) = enc4 (V (main_arg7 : DevRef τ sig)) (V (main_arg8 : DevRef τ sig)) (V (main_v72 : DevRef τ sig)) := by
  unfold ops4
  after_results
  rfl

/-- What stretch 5 leaves at `main_v87`. -/
theorem inputs_eq (V : Valuation τ sig (Elt F)) :
    after ops5 V (main_v87 : DevRef τ sig) = inputs (V (main_arg9 : DevRef τ sig)) (V (main_arg10 : DevRef τ sig)) (V (main_v79 : DevRef τ sig)) := by
  unfold ops5
  after_results
  rfl

/-- What stretch 6 leaves at `main_v102`. -/
theorem dist_eq (V : Valuation τ sig (Elt F)) :
    after ops6 V (main_v102 : DevRef τ sig) = dist (V (main_arg11 : DevRef τ sig)) (V (main_v87 : DevRef τ sig)) := by
  unfold ops6
  after_results
  rfl

/-- What stretch 7 leaves at `main_v103`. -/
theorem code_eq (V : Valuation τ sig (Elt F)) :
    after ops7 V (main_v103 : DevRef τ sig) = code (V (main_v102 : DevRef τ sig)) := by
  unfold ops7
  after_results
  rfl

/-- What stretch 8 leaves at `main_v104`. -/
theorem taken_eq (V : Valuation τ sig (Elt F)) :
    after ops8 V (main_v104 : DevRef τ sig) = taken (V (main_arg11 : DevRef τ sig)) (V (main_v103 : DevRef τ sig)) := by
  unfold ops8
  after_results
  rfl

/-- What stretch 9 leaves at `main_v115`. -/
theorem loss_eq (V : Valuation τ sig (Elt F)) :
    after ops9 V (main_v115 : DevRef τ sig) = loss (V (main_v87 : DevRef τ sig)) (V (main_v104 : DevRef τ sig)) := by
  unfold ops9
  after_results
  rfl

/-- What stretch 9 leaves at `main_v118`. -/
theorem quant_eq (V : Valuation τ sig (Elt F)) :
    after ops9 V (main_v118 : DevRef τ sig) = quant (V (main_v87 : DevRef τ sig)) (V (main_v104 : DevRef τ sig)) := by
  unfold ops9
  after_results
  rfl

/-- What stretch 10 leaves at `main_v139`. -/
theorem dec1_eq (V : Valuation τ sig (Elt F)) :
    after ops10 V (main_v139 : DevRef τ sig) = dec1 (V (main_arg12 : DevRef τ sig)) (V (main_arg13 : DevRef τ sig)) (V (main_v118 : DevRef τ sig)) := by
  unfold ops10
  after_results
  rfl

/-- What stretch 11 leaves at `main_v167`. -/
theorem dec2_eq (V : Valuation τ sig (Elt F)) :
    after ops11 V (main_v167 : DevRef τ sig) = dec2 (V (main_arg14 : DevRef τ sig)) (V (main_arg15 : DevRef τ sig)) (V (main_v139 : DevRef τ sig)) := by
  unfold ops11
  after_results
  rfl

/-- What stretch 12 leaves at `main_v193`. -/
theorem dec3_eq (V : Valuation τ sig (Elt F)) :
    after ops12 V (main_v193 : DevRef τ sig) = dec3 (V (main_arg16 : DevRef τ sig)) (V (main_arg17 : DevRef τ sig)) (V (main_v167 : DevRef τ sig)) := by
  unfold ops12
  after_results
  rfl

/-- What stretch 12 leaves at `main_v194`. -/
theorem column_eq (V : Valuation τ sig (Elt F)) :
    after ops12 V (main_v194 : DevRef τ sig) = column (V (main_v103 : DevRef τ sig)) := by
  unfold ops12
  after_results
  rfl

end Cert.ReferenceIdeal.Value

end
-- ==== Proof.RefValue.lean ====
/- What the reference computes: its three results as functions of its arguments, and its run. -/
module

public import proofs.«01_k».proof.Proof.RefRun

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo Idealize.SL.Sem

variable {F : FTy → Type} [FloatOps F]

/-- The reference's run: every TensorCore buffer ends at the line's contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_hlo _ _ main_eq (by decide) (by decide)
    (by simp [ops, ops1, ops2, ops3, ops4, ops5, ops6, ops7, ops8, ops9, ops10, ops11, ops12])
    (by intro _ h; (repeat (cases h with | head => rfl | tail _ h => ?_)); exact nomatch h) m ρ

/-- The encoder: five convolutions, the last array with the channels innermost. -/
def encoded (x : FVec F S32x1x16384 .f32) (w1 : FVec F S64x1x4 .f32) (b1 : FVec F S64 .f32)
    (w2 : FVec F S128x64x4 .f32) (b2 : FVec F S128 .f32) (w3 : FVec F S128x128x3 .f32) (b3 : FVec F S128 .f32)
    (w4 : FVec F S64x128x1 .f32) (b4 : FVec F S64 .f32) (wp : FVec F S64x64x1 .f32) (bp : FVec F S64 .f32) :
    FVec F S32x4096x64 .f32 :=
  inputs wp bp (enc4 w4 b4 (enc3 w3 b3 (enc2 w2 b2 (enc1 x w1 b1))))

/-- The nearest code of every position. -/
def codes (E : FVec F S512x64 .f32) (z : FVec F S32x4096x64 .f32) : IVec S131072 32 := code (dist E z)

/-- The code vector of every position. -/
def vectors (E : FVec F S512x64 .f32) (z : FVec F S32x4096x64 .f32) : FVec F S131072x64 .f32 := taken E (codes E z)

/-- The decoder over the straight-through code vectors. -/
def decoded (E : FVec F S512x64 .f32) (wd1 : FVec F S128x64x3 .f32) (bd1 : FVec F S128 .f32)
    (wt1 : FVec F S128x64x4 .f32) (bt1 : FVec F S64 .f32) (wt2 : FVec F S64x1x4 .f32) (bt2 : FVec F S1 .f32)
    (z : FVec F S32x4096x64 .f32) : FVec F S32x1x16384 .f32 :=
  dec3 wt2 bt2 (dec2 wt1 bt1 (dec1 wd1 bd1 (quant z (vectors E z))))

/-- The encoder's array of a device's buffers. -/
def encodedOf (V : Valuation τ sig (Elt F)) : FVec F S32x4096x64 .f32 :=
  encoded (V (main_arg0 : DevRef τ sig)) (V (main_arg1 : DevRef τ sig)) (V (main_arg2 : DevRef τ sig))
    (V (main_arg3 : DevRef τ sig)) (V (main_arg4 : DevRef τ sig)) (V (main_arg5 : DevRef τ sig))
    (V (main_arg6 : DevRef τ sig)) (V (main_arg7 : DevRef τ sig)) (V (main_arg8 : DevRef τ sig))
    (V (main_arg9 : DevRef τ sig)) (V (main_arg10 : DevRef τ sig))

/-- The loss's buffer after the whole line. -/
theorem loss_final (V : Valuation τ sig (Elt F)) :
    after ops V (main_v115 : DevRef τ sig)
      = loss (encodedOf V) (vectors (V (main_arg11 : DevRef τ sig)) (encodedOf V)) := by
  simp only [ops, after_cat]
  rw [kept12 (r := main_v115) (by decide), kept11 (r := main_v115) (by decide), kept10 (r := main_v115) (by
    decide), loss_eq, kept8 (r := main_v87) (by decide), taken_eq, kept7 (r := main_v87) (by decide), kept7 (r :=
    main_arg11) (by decide), code_eq, kept6 (r := main_v87) (by decide), kept6 (r := main_arg11) (by decide),
    dist_eq, inputs_eq, kept5 (r := main_arg11) (by decide), kept4 (r := main_arg9) (by decide), kept4 (r :=
    main_arg10) (by decide), enc4_eq, kept4 (r := main_arg11) (by decide), kept3 (r := main_arg9) (by decide),
    kept3 (r := main_arg10) (by decide), kept3 (r := main_arg7) (by decide), kept3 (r := main_arg8) (by decide),
    enc3_eq, kept3 (r := main_arg11) (by decide), kept2 (r := main_arg9) (by decide), kept2 (r := main_arg10) (by
    decide), kept2 (r := main_arg7) (by decide), kept2 (r := main_arg8) (by decide), kept2 (r := main_arg5) (by
    decide), kept2 (r := main_arg6) (by decide), enc2_eq, kept2 (r := main_arg11) (by decide), kept1 (r :=
    main_arg9) (by decide), kept1 (r := main_arg10) (by decide), kept1 (r := main_arg7) (by decide), kept1 (r :=
    main_arg8) (by decide), kept1 (r := main_arg5) (by decide), kept1 (r := main_arg6) (by decide), kept1 (r :=
    main_arg3) (by decide), kept1 (r := main_arg4) (by decide), enc1_eq, kept1 (r := main_arg11) (by decide)]
  rfl

/-- The reconstruction's buffer after the whole line. -/
theorem decoded_final (V : Valuation τ sig (Elt F)) :
    after ops V (main_v193 : DevRef τ sig)
      = decoded (V (main_arg11 : DevRef τ sig)) (V (main_arg12 : DevRef τ sig)) (V (main_arg13 : DevRef τ sig))
          (V (main_arg14 : DevRef τ sig)) (V (main_arg15 : DevRef τ sig)) (V (main_arg16 : DevRef τ sig))
          (V (main_arg17 : DevRef τ sig)) (encodedOf V) := by
  simp only [ops, after_cat]
  rw [dec3_eq, kept11 (r := main_arg16) (by decide), kept11 (r := main_arg17) (by decide), dec2_eq, kept10 (r :=
    main_arg16) (by decide), kept10 (r := main_arg17) (by decide), kept10 (r := main_arg14) (by decide), kept10 (r
    := main_arg15) (by decide), dec1_eq, kept9 (r := main_arg16) (by decide), kept9 (r := main_arg17) (by decide),
    kept9 (r := main_arg14) (by decide), kept9 (r := main_arg15) (by decide), kept9 (r := main_arg12) (by decide),
    kept9 (r := main_arg13) (by decide), quant_eq, kept8 (r := main_arg16) (by decide), kept8 (r := main_arg17)
    (by decide), kept8 (r := main_arg14) (by decide), kept8 (r := main_arg15) (by decide), kept8 (r := main_arg12)
    (by decide), kept8 (r := main_arg13) (by decide), kept8 (r := main_v87) (by decide), taken_eq, kept7 (r :=
    main_arg16) (by decide), kept7 (r := main_arg17) (by decide), kept7 (r := main_arg14) (by decide), kept7 (r :=
    main_arg15) (by decide), kept7 (r := main_arg12) (by decide), kept7 (r := main_arg13) (by decide), kept7 (r :=
    main_v87) (by decide), kept7 (r := main_arg11) (by decide), code_eq, kept6 (r := main_arg16) (by decide),
    kept6 (r := main_arg17) (by decide), kept6 (r := main_arg14) (by decide), kept6 (r := main_arg15) (by decide),
    kept6 (r := main_arg12) (by decide), kept6 (r := main_arg13) (by decide), kept6 (r := main_v87) (by decide),
    kept6 (r := main_arg11) (by decide), dist_eq, kept5 (r := main_arg16) (by decide), kept5 (r := main_arg17) (by
    decide), kept5 (r := main_arg14) (by decide), kept5 (r := main_arg15) (by decide), kept5 (r := main_arg12) (by
    decide), kept5 (r := main_arg13) (by decide), inputs_eq, kept5 (r := main_arg11) (by decide), kept4 (r :=
    main_arg16) (by decide), kept4 (r := main_arg17) (by decide), kept4 (r := main_arg14) (by decide), kept4 (r :=
    main_arg15) (by decide), kept4 (r := main_arg12) (by decide), kept4 (r := main_arg13) (by decide), kept4 (r :=
    main_arg9) (by decide), kept4 (r := main_arg10) (by decide), enc4_eq, kept4 (r := main_arg11) (by decide),
    kept3 (r := main_arg16) (by decide), kept3 (r := main_arg17) (by decide), kept3 (r := main_arg14) (by decide),
    kept3 (r := main_arg15) (by decide), kept3 (r := main_arg12) (by decide), kept3 (r := main_arg13) (by decide),
    kept3 (r := main_arg9) (by decide), kept3 (r := main_arg10) (by decide), kept3 (r := main_arg7) (by decide),
    kept3 (r := main_arg8) (by decide), enc3_eq, kept3 (r := main_arg11) (by decide), kept2 (r := main_arg16) (by
    decide), kept2 (r := main_arg17) (by decide), kept2 (r := main_arg14) (by decide), kept2 (r := main_arg15) (by
    decide), kept2 (r := main_arg12) (by decide), kept2 (r := main_arg13) (by decide), kept2 (r := main_arg9) (by
    decide), kept2 (r := main_arg10) (by decide), kept2 (r := main_arg7) (by decide), kept2 (r := main_arg8) (by
    decide), kept2 (r := main_arg5) (by decide), kept2 (r := main_arg6) (by decide), enc2_eq, kept2 (r :=
    main_arg11) (by decide), kept1 (r := main_arg16) (by decide), kept1 (r := main_arg17) (by decide), kept1 (r :=
    main_arg14) (by decide), kept1 (r := main_arg15) (by decide), kept1 (r := main_arg12) (by decide), kept1 (r :=
    main_arg13) (by decide), kept1 (r := main_arg9) (by decide), kept1 (r := main_arg10) (by decide), kept1 (r :=
    main_arg7) (by decide), kept1 (r := main_arg8) (by decide), kept1 (r := main_arg5) (by decide), kept1 (r :=
    main_arg6) (by decide), kept1 (r := main_arg3) (by decide), kept1 (r := main_arg4) (by decide), enc1_eq, kept1
    (r := main_arg11) (by decide)]
  rfl

/-- The codes' buffer after the whole line. -/
theorem codes_final (V : Valuation τ sig (Elt F)) :
    after ops V (main_v194 : DevRef τ sig)
      = column (codes (V (main_arg11 : DevRef τ sig)) (encodedOf V)) := by
  simp only [ops, after_cat]
  rw [column_eq, kept11 (r := main_v103) (by decide), kept10 (r := main_v103) (by decide), kept9 (r := main_v103)
    (by decide), kept8 (r := main_v103) (by decide), code_eq, dist_eq, kept5 (r := main_arg11) (by decide),
    inputs_eq, kept4 (r := main_arg11) (by decide), kept4 (r := main_arg9) (by decide), kept4 (r := main_arg10)
    (by decide), enc4_eq, kept3 (r := main_arg11) (by decide), kept3 (r := main_arg9) (by decide), kept3 (r :=
    main_arg10) (by decide), kept3 (r := main_arg7) (by decide), kept3 (r := main_arg8) (by decide), enc3_eq,
    kept2 (r := main_arg11) (by decide), kept2 (r := main_arg9) (by decide), kept2 (r := main_arg10) (by decide),
    kept2 (r := main_arg7) (by decide), kept2 (r := main_arg8) (by decide), kept2 (r := main_arg5) (by decide),
    kept2 (r := main_arg6) (by decide), enc2_eq, kept1 (r := main_arg11) (by decide), kept1 (r := main_arg9) (by
    decide), kept1 (r := main_arg10) (by decide), kept1 (r := main_arg7) (by decide), kept1 (r := main_arg8) (by
    decide), kept1 (r := main_arg5) (by decide), kept1 (r := main_arg6) (by decide), kept1 (r := main_arg3) (by
    decide), kept1 (r := main_arg4) (by decide), enc1_eq]
  rfl

/-- What the reference writes. -/
abbrev written : List (Ref sig .tc) :=
  wr1 ++ wr2 ++ wr3 ++ wr4 ++ wr5 ++ wr6 ++ wr7 ++ wr8 ++ wr9 ++ wr10 ++ wr11 ++ wr12

/-- A buffer that no stretch writes keeps its contents. -/
theorem kept {r : Ref sig .tc} (h : r ∉ written)
    (V : Valuation τ sig (Elt F)) : after ops V (r : DevRef τ sig) = V (r : DevRef τ sig) := by
  simp only [written, List.mem_append, not_or] at h
  obtain ⟨⟨⟨⟨⟨⟨⟨⟨⟨⟨⟨h1, h2⟩, h3⟩, h4⟩, h5⟩, h6⟩, h7⟩, h8⟩, h9⟩, h10⟩, h11⟩, h12⟩ := h
  simp only [ops, after_cat]
  rw [kept12 h12, kept11 h11, kept10 h10, kept9 h9, kept8 h8, kept7 h7, kept6 h6, kept5 h5, kept4 h4, kept3 h3, kept2 h2,
    kept1 h1]

end Cert.ReferenceIdeal.Value

end
-- ==== Proof.PreFacts.lean ====
/- The side conditions that the precondition states. -/
module

public import proofs.«01_k».proof.Pre_finite_encoder
public import Idealize.ShloMosaic.Lib.Decide

@[expose] public section

namespace Cert.Pre_finite_encoder.Value

open Idealize.ShloMosaic Cert.Pre_finite_encoder

/-- Every side condition that the precondition states holds. -/
instance facts : Cert.Pre_finite_encoder.Facts where
  bcast_S_S32x1x16384 := by decide
  reducesTo_S32x1x16384_S_d0_1_2 := by decide
  h_S_ := by decide
  bcast_S_S64x1x4 := by decide
  reducesTo_S64x1x4_S_d0_1_2 := by decide
  bcast_S_S64 := by decide
  reducesTo_S64_S_d0 := by decide
  bcast_S_S128x64x4 := by decide
  reducesTo_S128x64x4_S_d0_1_2 := by decide
  bcast_S_S128 := by decide
  reducesTo_S128_S_d0 := by decide
  bcast_S_S128x128x3 := by decide
  reducesTo_S128x128x3_S_d0_1_2 := by decide
  bcast_S_S64x128x1 := by decide
  reducesTo_S64x128x1_S_d0_1_2 := by decide
  bcast_S_S64x64x1 := by decide
  reducesTo_S64x64x1_S_d0_1_2 := by decide

end Cert.Pre_finite_encoder.Value
-- ==== Proof.Body.lean ====
/- One image of the kernel's body, stage by stage. Both halves of a grid point's block are this one composition
   (`half0_*`, `half1_*`), so everything about the body's values is proved of the stages alone. -/
module

public import proofs.«01_k».proof.Proof.Gen.KernelIdeal.Skeleton

@[expose] public section

set_option maxRecDepth 16384

noncomputable section

namespace Cert.KernelIdeal.Value

open Idealize.ShloMosaic Idealize.ShloMosaic.TcCoe Cert.KernelIdeal.Gen

variable {F : FTy → Type} [FloatOps F]

/-- The bf16 zero. -/
abbrev z16 : F .bf16 := Scalar.ofBits .bf16 0x0000#16

/-! ## Shifts by one position, a zero row entering -/

/-- Four channels, each position holding its predecessor's value. -/
def down4 (z : FVec F S4096x4 .bf16) : FVec F S4096x4 .bf16 :=
  concatenate S4096x4 0 [⟨S1x4, broadcast S1x4 z16⟩, ⟨S4095x4, extractStridedSlice S4095x4 ![0, 0] z slices_S4096x4_o0_0_S4095x4⟩] concatenates_S1x4_S4095x4_S4096x4_d0
/-- Four channels, each position holding its successor's value. -/
def up4 (z : FVec F S4096x4 .bf16) : FVec F S4096x4 .bf16 :=
  concatenate S4096x4 0 [⟨S4095x4, extractStridedSlice S4095x4 ![1, 0] z slices_S4096x4_o1_0_S4095x4⟩, ⟨S1x4, broadcast S1x4 z16⟩] concatenates_S4095x4_S1x4_S4096x4_d0
/-- Sixty-four channels, each position holding its predecessor's value. -/
def down64 (z : FVec F S4096x64 .bf16) : FVec F S4096x64 .bf16 :=
  concatenate S4096x64 0 [⟨S1x64, broadcast S1x64 z16⟩, ⟨S4095x64, extractStridedSlice S4095x64 ![0, 0] z slices_S4096x64_o0_0_S4095x64⟩] concatenates_S1x64_S4095x64_S4096x64_d0
/-- Sixty-four channels, each position holding its successor's value. -/
def up64 (z : FVec F S4096x64 .bf16) : FVec F S4096x64 .bf16 :=
  concatenate S4096x64 0 [⟨S4095x64, extractStridedSlice S4095x64 ![1, 0] z slices_S4096x64_o1_0_S4095x64⟩, ⟨S1x64, broadcast S1x64 z16⟩] concatenates_S4095x64_S1x64_S4096x64_d0
/-- A hundred and twenty-eight channels, each position holding its predecessor's value. -/
def down128 (z : FVec F S4096x128 .bf16) : FVec F S4096x128 .bf16 :=
  concatenate S4096x128 0 [⟨S1x128, broadcast S1x128 z16⟩, ⟨S4095x128, extractStridedSlice S4095x128 ![0, 0] z slices_S4096x128_o0_0_S4095x128⟩] concatenates_S1x128_S4095x128_S4096x128_d0
/-- A hundred and twenty-eight channels, each position holding its successor's value. -/
def up128 (z : FVec F S4096x128 .bf16) : FVec F S4096x128 .bf16 :=
  concatenate S4096x128 0 [⟨S4095x128, extractStridedSlice S4095x128 ![1, 0] z slices_S4096x128_o1_0_S4095x128⟩, ⟨S1x128, broadcast S1x128 z16⟩] concatenates_S4095x128_S1x128_S4096x128_d0

/-! ## The stages -/

/-- A product's bias and the positive part, narrowed: what follows every product of 128 columns. -/
def act (v : FVec F S4096x128 .f32) (b : Vec F S1x128 .f32) : FVec F S4096x128 .bf16 :=
  truncf .bf16 (maximumf (addf v (broadcastTo S4096x128 (shapeCast S1x128 b shapeCasts_S1x128_S1x128) broadcasts_S1x128_S4096x128))
    (broadcast S4096x128 (Scalar.ofBits .f32 0x00000000#32))) bitsLt_bf16_f32

/-- An image's four rows as columns. -/
def columns (x : Vec F S1x4x4096 .bf16) : FVec F S4096x4 .bf16 :=
  transpose S4096x4 [1, 0] (shapeCast S4x4096 x shapeCasts_S1x4x4096_S4x4096) transposes_S4x4096_p1_0_S4096x4

/-- The first convolution: even positions in columns 0 to 63, odd positions in columns 64 to 127. -/
def kz1 (x : Vec F S1x4x4096 .bf16) (w : Vec F S12x128 .bf16) (b : Vec F S1x128 .f32) : FVec F S4096x128 .bf16 :=
  act (matmul dot_S4096x12_S12x128_S4096x128_1_0_0_1_n_n none
    (concatenate S4096x12 1 [⟨S4096x4, down4 (columns x)⟩, ⟨S4096x4, columns x⟩, ⟨S4096x4, up4 (columns x)⟩] concatenates_S4096x4_S4096x4_S4096x4_S4096x12_d1)
    (shapeCast S12x128 w shapeCasts_S12x128_S12x128) (constant S4096x128 .f32 0x00000000#32)) b

/-- The even positions' columns. -/
def evens (z : FVec F S4096x128 .bf16) : FVec F S4096x64 .bf16 :=
  extractStridedSlice S4096x64 ![0, 0] z slices_S4096x128_o0_0_S4096x64
/-- The odd positions' columns. -/
def odds (z : FVec F S4096x128 .bf16) : FVec F S4096x64 .bf16 :=
  extractStridedSlice S4096x64 ![0, 64] z slices_S4096x128_o0_64_S4096x64

/-- Four neighbouring positions side by side: the odd one before, the pair, the even one after. -/
def quad (z : FVec F S4096x128 .bf16) : FVec F S4096x256 .bf16 :=
  concatenate S4096x256 1 [⟨S4096x64, down64 (odds z)⟩, ⟨S4096x64, evens z⟩, ⟨S4096x64, odds z⟩, ⟨S4096x64, up64 (evens z)⟩] concatenates_S4096x64_S4096x64_S4096x64_S4096x64_S4096x256_d1

/-- Three neighbouring positions side by side. -/
def triple128 (z : FVec F S4096x128 .bf16) : FVec F S4096x384 .bf16 :=
  concatenate S4096x384 1 [⟨S4096x128, down128 z⟩, ⟨S4096x128, z⟩, ⟨S4096x128, up128 z⟩] concatenates_S4096x128_S4096x128_S4096x128_S4096x384_d1

/-- The second convolution's product. -/
def kp2 (z : FVec F S4096x128 .bf16) (w : Vec F S256x128 .bf16) : FVec F S4096x128 .f32 :=
  matmul dot_S4096x256_S256x128_S4096x128_1_0_0_1_n_n none (quad z)
    (shapeCast S256x128 w shapeCasts_S256x128_S256x128) (constant S4096x128 .f32 0x00000000#32)

/-- The second convolution. -/
def kz2 (z : FVec F S4096x128 .bf16) (w : Vec F S256x128 .bf16) (b : Vec F S1x128 .f32) : FVec F S4096x128 .bf16 :=
  act (kp2 z w) b

/-- The third convolution, and the first transposed one, whose output positions come in pairs. -/
def kz3 (z : FVec F S4096x128 .bf16) (w : Vec F S384x128 .bf16) (b : Vec F S1x128 .f32) : FVec F S4096x128 .bf16 :=
  act (matmul dot_S4096x384_S384x128_S4096x128_1_0_0_1_n_n none (triple128 z)
    (shapeCast S384x128 w shapeCasts_S384x128_S384x128) (constant S4096x128 .f32 0x00000000#32)) b

/-- The fourth convolution, of width one. -/
def kz4 (z : FVec F S4096x128 .bf16) (w : Vec F S128x64 .bf16) (b : Vec F S1x64 .f32) : FVec F S4096x64 .bf16 :=
  truncf .bf16 (addf (matmul dot_S4096x128_S128x64_S4096x64_1_0_0_1_n_n none z
    (shapeCast S128x64 w shapeCasts_S128x64_S128x64) (constant S4096x64 .f32 0x00000000#32))
    (broadcastTo S4096x64 (shapeCast S1x64 b shapeCasts_S1x64_S1x64) broadcasts_S1x64_S4096x64)) bitsLt_bf16_f32

/-- The projection before the codebook, of width one. -/
def kflat (z : FVec F S4096x64 .bf16) (w : Vec F S64x64 .bf16) (b : Vec F S1x64 .f32) : FVec F S4096x64 .f32 :=
  addf (matmul dot_S4096x64_S64x64_S4096x64_1_0_0_1_n_n none z
    (shapeCast S64x64 w shapeCasts_S64x64_S64x64) (constant S4096x64 .f32 0x00000000#32))
    (broadcastTo S4096x64 (shapeCast S1x64 b shapeCasts_S1x64_S1x64) broadcasts_S1x64_S4096x64)

/-- Squared lengths of a position's vector and of a code, added. -/
def knorms (f : FVec F S4096x64 .f32) (e2 : Vec F S1x512 .f32) : FVec F S4096x512 .f32 :=
  addf (broadcastTo S4096x512 (shapeCast S4096x1 (multiReduction .add [1] S4096 (mulf f f) 0x00000000#32 reduces_S4096x64_S4096 (.inl rfl) rfl) shapeCasts_S4096_S4096x1) broadcasts_S4096x1_S4096x512)
    (broadcastTo S4096x512 (shapeCast S1x512 e2 shapeCasts_S1x512_S1x512) broadcasts_S1x512_S4096x512)

/-- Squared distances: the lengths less the product with the doubled codes. -/
def kdist (f : FVec F S4096x64 .f32) (n : FVec F S4096x512 .f32) (et : Vec F S64x512 .f32) : FVec F S4096x512 .f32 :=
  subf n (matmul dot_S4096x64_S64x512_S4096x512_1_0_0_1_n_n none f
    (shapeCast S64x512 et shapeCasts_S64x512_S64x512) (constant S4096x512 .f32 0x00000000#32))

/-- Each position's column numbers. -/
def numbers : IVec S4096x512 32 := iota .tc S4096x512 32 [1] iota_S4096x512_d1_w32

/-- The least column that holds its row's minimum. -/
def kidx (d : FVec F S4096x512 .f32) : IVec S4096x1 32 :=
  shapeCast S4096x1 (multiReductionI .minsi [1] S4096
    (select (cmpf .oeq d (broadcastTo S4096x512 (shapeCast S4096x1 (multiReduction .minimumf [1] S4096 d 0x7F800000#32 reduces_S4096x512_S4096 (.inl rfl) rfl) shapeCasts_S4096_S4096x1) broadcasts_S4096x1_S4096x512))
      numbers (broadcast S4096x512 512#32)) 2147483647#32 reduces_S4096x512_S4096 rfl) shapeCasts_S4096_S4096x1

/-- The chosen codes, as a product with their indicator. -/
def kq (i : IVec S4096x1 32) (e : Vec F S512x64 .bf16) : FVec F S4096x64 .f32 :=
  matmul dot_S4096x512_S512x64_S4096x64_1_0_0_1_n_n none
    (truncf .bf16 (sitofp .f32 (extui 32 (cmpi .eq numbers (broadcastTo S4096x512 i broadcasts_S4096x1_S4096x512)) natLt_1_32)) bitsLt_bf16_f32)
    (shapeCast S512x64 e shapeCasts_S512x64_S512x64) (constant S4096x64 .f32 0x00000000#32)

/-- The indices as a row. -/
def krow (i : IVec S4096x1 32) : IVec S1x1x4096 32 :=
  shapeCast S1x1x4096 (transpose S1x4096 [1, 0] i transposes_S4096x1_p1_0_S1x4096) shapeCasts_S1x4096_S1x1x4096

/-- Per channel, the squared differences summed over the positions. -/
def kpart (f q : FVec F S4096x64 .f32) : FVec F S1x1x64 .f32 :=
  shapeCast S1x1x64 (shapeCast S1x64 (multiReduction .add [0] S64 (mulf (subf q f) (subf q f)) 0x00000000#32 reduces_S4096x64_S64 (.inl rfl) rfl) shapeCasts_S64_S1x64) shapeCasts_S1x64_S1x1x64

/-- Three neighbouring positions of the chosen codes side by side. -/
def triple64 (q : FVec F S4096x64 .bf16) : FVec F S4096x192 .bf16 :=
  concatenate S4096x192 1 [⟨S4096x64, down64 q⟩, ⟨S4096x64, q⟩, ⟨S4096x64, up64 q⟩] concatenates_S4096x64_S4096x64_S4096x64_S4096x192_d1

/-- The decoder's first convolution. -/
def kh (q : FVec F S4096x64 .f32) (w : Vec F S192x128 .bf16) (b : Vec F S1x128 .f32) : FVec F S4096x128 .bf16 :=
  act (matmul dot_S4096x192_S192x128_S4096x128_1_0_0_1_n_n none (triple64 (truncf .bf16 q bitsLt_bf16_f32))
    (shapeCast S192x128 w shapeCasts_S192x128_S192x128) (constant S4096x128 .f32 0x00000000#32)) b

/-- The last transposed convolution: four neighbouring outputs per position. -/
def ky (g : FVec F S4096x128 .bf16) (w : Vec F S256x4 .bf16) (b : Vec F S1x4 .f32) : FVec F S1x4x4096 .f32 :=
  shapeCast S1x4x4096 (transpose S4x4096 [1, 0]
    (addf (matmul dot_S4096x256_S256x4_S4096x4_1_0_0_1_n_n none (quad g)
      (shapeCast S256x4 w shapeCasts_S256x4_S256x4) (constant S4096x4 .f32 0x00000000#32))
      (broadcastTo S4096x4 (shapeCast S1x4 b shapeCasts_S1x4_S1x4) broadcasts_S1x4_S4096x4)) transposes_S4096x4_p1_0_S4x4096) shapeCasts_S4x4096_S1x4x4096

/-! ## An image's results -/

/-- An image's vectors before the codebook. -/
def kvec (x : Vec F S1x4x4096 .bf16) (w1 : Vec F S12x128 .bf16) (b1 : Vec F S1x128 .f32) (w2 : Vec F S256x128 .bf16) (b2 : Vec F S1x128 .f32)
    (w3 : Vec F S384x128 .bf16) (b3 : Vec F S1x128 .f32) (w4 : Vec F S128x64 .bf16) (b4 : Vec F S1x64 .f32) (wp : Vec F S64x64 .bf16) (bp : Vec F S1x64 .f32) :
    FVec F S4096x64 .f32 :=
  kflat (kz4 (kz3 (kz2 (kz1 x w1 b1) w2 b2) w3 b3) w4 b4) wp bp

/-- The code numbers of an image's vectors. -/
def knum (f : FVec F S4096x64 .f32) (et : Vec F S64x512 .f32) (e2 : Vec F S1x512 .f32) : IVec S4096x1 32 :=
  kidx (kdist f (knorms f e2) et)

/-- An image's reconstruction from its chosen codes. -/
def kdec (q : FVec F S4096x64 .f32) (wd : Vec F S192x128 .bf16) (bd : Vec F S1x128 .f32) (wt1 : Vec F S384x128 .bf16) (bt1 : Vec F S1x128 .f32)
    (wt2 : Vec F S256x4 .bf16) (bt2 : Vec F S1x4 .f32) : FVec F S1x4x4096 .f32 :=
  ky (kz3 (kh q wd bd) wt1 bt1) wt2 bt2

section halves

variable (x : Vec F S1x4x4096 .bf16) (w1 : Vec F S12x128 .bf16) (b1 : Vec F S1x128 .f32) (w2 : Vec F S256x128 .bf16) (b2 : Vec F S1x128 .f32)
    (w3 : Vec F S384x128 .bf16) (b3 : Vec F S1x128 .f32) (w4 : Vec F S128x64 .bf16) (b4 : Vec F S1x64 .f32) (wp : Vec F S64x64 .bf16) (bp : Vec F S1x64 .f32)
    (f : FVec F S4096x64 .f32) (et : Vec F S64x512 .f32) (e2 : Vec F S1x512 .f32) (e : Vec F S512x64 .bf16) (q : FVec F S4096x64 .f32)
    (wd : Vec F S192x128 .bf16) (bd : Vec F S1x128 .f32) (wt1 : Vec F S384x128 .bf16) (bt1 : Vec F S1x128 .f32)
    (wt2 : Vec F S256x4 .bf16) (bt2 : Vec F S1x4 .f32)

/-- The first half's vectors. -/
theorem half0_vec : k0_pay3 (k0_pay2 x w1 b1 w2 b2) z16 w3 b3 w4 b4 wp bp = kvec x w1 b1 w2 b2 w3 b3 w4 b4 wp bp := rfl
/-- The first half's lengths. -/
theorem half0_norms : k0_pay4 (k0_pay2 x w1 b1 w2 b2) z16 w3 b3 w4 b4 wp bp e2 = knorms (kvec x w1 b1 w2 b2 w3 b3 w4 b4 wp bp) e2 := rfl
/-- The first half's indices. -/
theorem half0_row : k0_pay7 f (knorms f e2) et = krow (knum f et e2) := rfl
/-- The first half's loss parts. -/
theorem half0_part : k0_pay8 f (knorms f e2) et e = kpart f (kq (knum f et e2) e) := rfl
/-- The first half's reconstruction. -/
theorem half0_dec : k0_pay11 (k0_pay10 (k0_pay9 f (knorms f e2) et e) wd bd wt1 bt1 wt2) bt2 = kdec (kq (knum f et e2) e) wd bd wt1 bt1 wt2 bt2 := rfl
/-- The second half's vectors. -/
theorem half1_vec : k0_pay13 (k0_pay12 x w1 b1 w2) b2 w3 b3 w4 b4 wp bp = kvec x w1 b1 w2 b2 w3 b3 w4 b4 wp bp := rfl
/-- The second half's indices. -/
theorem half1_row : k0_pay16 f e2 et = krow (knum f et e2) := rfl
/-- The second half's loss parts. -/
theorem half1_part : k0_pay17 f e2 et e = kpart f (kq (knum f et e2) e) := rfl
/-- The second half's chosen codes. -/
theorem half1_q : k0_pay15 f e2 et e = kq (knum f et e2) e := rfl
/-- The second half's reconstruction. -/
theorem half1_dec : k0_pay1 (k0_pay19 q wd bd wt1 bt1) (k0_pay20 q wd bd wt1 bt1) (k0_pay21 q wd bd wt1 bt1) (k0_pay22 q wd bd wt1 bt1) z16 wt2 bt2
    = kdec q wd bd wt1 bt1 wt2 bt2 := rfl

end halves

end Cert.KernelIdeal.Value
-- ==== Proof.KernelArrays.lean ====
/- The arrays that the launch writes: image `n`'s part of each is the body's composition applied to the image's slab
   of the input and to the whole of each weight. -/
module

public import proofs.«01_k».proof.Proof.FrameKernelIdeal
public import proofs.«01_k».proof.Proof.Body
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (c : Dev nD)

/-- Image `n` of the input. -/
def slab (n : Fin 32) : Vec Ideal S1x4x4096 .bf16 := fun y => (V m c main_v81 : Vec Ideal S32x4x4096 .bf16) (ix3 n (y 1) (y 2))

/-- Image `n`'s vectors. -/
def fK (n : Fin 32) : FVec Ideal S4096x64 .f32 :=
  kvec (slab m c n) (V m c main_v82) (V m c main_v8) (V m c main_v83) (V m c main_v11) (V m c main_v84) (V m c main_v14) (V m c main_v85) (V m c main_v17) (V m c main_v86) (V m c main_v20)

/-- Image `n`'s code numbers. -/
def numK (n : Fin 32) : IVec S4096x1 32 := knum (fK m c n) (V m c main_v23) (V m c main_v26)

/-- Image `n`'s chosen codes. -/
def qK (n : Fin 32) : FVec Ideal S4096x64 .f32 := kq (numK m c n) (V m c main_v87)

/-- Image `n`'s reconstruction. -/
def yK (n : Fin 32) : FVec Ideal S1x4x4096 .f32 := kdec (qK m c n) (V m c main_v88) (V m c main_v29) (V m c main_v89) (V m c main_v46) (V m c main_v90) (V m c main_v78)

/-- All reconstructions. -/
def yArr : Vec Ideal S32x4x4096 .f32 := fun y => yK m c (y 0) (ix3 0 (y 1) (y 2))

/-- All code numbers, a row for each image. -/
def iArr : Vec Ideal S32x1x4096 .i32 := fun y => krow (numK m c (y 0)) (ix3 0 (y 1) (y 2))

/-- All loss parts, a row for each image. -/
def lArr : Vec Ideal S32x1x64 .f32 := fun y => kpart (fK m c (y 0)) (qK m c (y 0)) (ix3 0 (y 1) (y 2))

/-- Where the windows' blocks sit. -/
theorem idx0 : ∀ t : Fin cfg0.N, win0_0.index t = ![t.val, 0, 0] ∧ win0_20.index t = ![t.val, 0, 0]
    ∧ win0_21.index t = ![t.val, 0, 0] ∧ win0_22.index t = ![t.val, 0, 0] :=
  (by decide +kernel : ∀ t : Fin grid0.N, _)

/-- The weights' blocks sit at the origin. -/
theorem idxw : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, _)

set_option maxHeartbeats 4000000 in
/-- A weight's block is its whole array. -/
theorem whole (t : Fin cfg0.N) : iblk m c 1 t = V m c main_v82 ∧ iblk m c 2 t = V m c main_v8 ∧ iblk m c 3 t = V m c main_v83 ∧ iblk m c 4 t = V m c main_v11 ∧ iblk m c 5 t = V m c main_v84 ∧ iblk m c 6 t = V m c main_v14 ∧ iblk m c 7 t = V m c main_v85 ∧ iblk m c 8 t = V m c main_v17 ∧ iblk m c 9 t = V m c main_v86 ∧ iblk m c 10 t = V m c main_v20 ∧ iblk m c 11 t = V m c main_v23 ∧ iblk m c 12 t = V m c main_v26 ∧ iblk m c 13 t = V m c main_v87 ∧ iblk m c 14 t = V m c main_v88 ∧ iblk m c 15 t = V m c main_v29 ∧ iblk m c 16 t = V m c main_v89 ∧ iblk m c 17 t = V m c main_v46 ∧ iblk m c 18 t = V m c main_v90 ∧ iblk m c 19 t = V m c main_v78 := by
  obtain ⟨h1, h2, h3, h4, h5, h6, h7, h8, h9, h10, h11, h12, h13, h14, h15, h16, h17, h18, h19⟩ := idxw t
  refine ⟨?_, ?_, ?_, ?_, ?_, ?_, ?_, ?_, ?_, ?_, ?_, ?_, ?_, ?_, ?_, ?_, ?_, ?_, ?_⟩ <;> funext y
  · blk_ext [iblk, h1]
  · blk_ext [iblk, h2]
  · blk_ext [iblk, h3]
  · blk_ext [iblk, h4]
  · blk_ext [iblk, h5]
  · blk_ext [iblk, h6]
  · blk_ext [iblk, h7]
  · blk_ext [iblk, h8]
  · blk_ext [iblk, h9]
  · blk_ext [iblk, h10]
  · blk_ext [iblk, h11]
  · blk_ext [iblk, h12]
  · blk_ext [iblk, h13]
  · blk_ext [iblk, h14]
  · blk_ext [iblk, h15]
  · blk_ext [iblk, h16]
  · blk_ext [iblk, h17]
  · blk_ext [iblk, h18]
  · blk_ext [iblk, h19]

/-- Image `2 t + h` is half `h` of point `t`'s block. -/
theorem blk_at (t : Fin cfg0.N) (n : Fin 32) (h : Fin 2) (hn : n.1 = 2 * t.1 + h) (r : Fin 4) (p : Fin 4096) :
    (iblk m c 0 t : Vec Ideal S2x4x4096 .bf16) (ix3 h r p) = (V m c main_v81 : Vec Ideal S32x4x4096 .bf16) (ix3 n r p) := by
  blk_ext [iblk, (idx0 t).1]

/-- Half `h` of a block. -/
def halfOf (X : Vec Ideal S2x4x4096 .bf16) (h : Fin 2) : Vec Ideal S1x4x4096 .bf16 := fun y => X (ix3 h (y 1) (y 2))

/-- The first half of a block. -/
theorem ld0 (X : Vec Ideal S2x4x4096 .bf16) : (View.ld X r0_0 : Vec Ideal S1x4x4096 .bf16) = halfOf X 0 := by
  funext y
  show (View.ld X r0_0 : Vec Ideal S1x4x4096 .bf16) y = X (ix3 0 (y 1) (y 2))
  pointwise

/-- The second half of a block. -/
theorem ld1 (X : Vec Ideal S2x4x4096 .bf16) : (View.ld X r0_16 : Vec Ideal S1x4x4096 .bf16) = halfOf X 1 := by
  funext y
  show (View.ld X r0_16 : Vec Ideal S1x4x4096 .bf16) y = X (ix3 1 (y 1) (y 2))
  pointwise

/-- Image `2 t + h` is half `h` of point `t`'s block. -/
theorem slab_eq (t : Fin cfg0.N) (n : Fin 32) (h : Fin 2) (hn : n.1 = 2 * t.1 + h) :
    halfOf (iblk m c 0 t) h = slab m c n :=
  funext fun _ => blk_at m c t n h hn _ _

/-- The two offsets of a whole array. -/
theorem hz2 : (![0, 0] : Fin 2 → ℕ) = fun _ => 0 := by decide

section body

variable (x0 : Vec Ideal S2x4x4096 .bf16) (x1 : Vec Ideal S12x128 .bf16) (x2 : Vec Ideal S1x128 .f32) (x3 : Vec Ideal S256x128 .bf16) (x4 : Vec Ideal S1x128 .f32) (x5 : Vec Ideal S384x128 .bf16) (x6 : Vec Ideal S1x128 .f32) (x7 : Vec Ideal S128x64 .bf16) (x8 : Vec Ideal S1x64 .f32) (x9 : Vec Ideal S64x64 .bf16) (x10 : Vec Ideal S1x64 .f32) (x11 : Vec Ideal S64x512 .f32) (x12 : Vec Ideal S1x512 .f32) (x13 : Vec Ideal S512x64 .bf16) (x14 : Vec Ideal S192x128 .bf16) (x15 : Vec Ideal S1x128 .f32) (x16 : Vec Ideal S384x128 .bf16) (x17 : Vec Ideal S1x128 .f32) (x18 : Vec Ideal S256x4 .bf16) (x19 : Vec Ideal S1x4 .f32)

/-- The first half's vectors. -/
theorem vec0 : k0_pay24 x0 x1 x2 x3 x4 x5 x6 x7 x8 x9 x10 x11 x12 x13 x14 x15 x16 x17 x18 x19 = kvec (halfOf x0 0) x1 x2 x3 x4 x5 x6 x7 x8 x9 x10 := by
  unfold k0_pay24 k0_pay23
  simp only [ld0, ld1, View.ld_unit_zero (S := S128x64) hz2 inb_S128x64_S128x64_0_0 _,
  View.ld_unit_zero (S := S12x128) hz2 inb_S12x128_S12x128_0_0 _,
  View.ld_unit_zero (S := S192x128) hz2 inb_S192x128_S192x128_0_0 _,
  View.ld_unit_zero (S := S1x128) hz2 inb_S1x128_S1x128_0_0 _,
  View.ld_unit_zero (S := S1x4) hz2 inb_S1x4_S1x4_0_0 _,
  View.ld_unit_zero (S := S1x512) hz2 inb_S1x512_S1x512_0_0 _,
  View.ld_unit_zero (S := S1x64) hz2 inb_S1x64_S1x64_0_0 _,
  View.ld_unit_zero (S := S256x128) hz2 inb_S256x128_S256x128_0_0 _,
  View.ld_unit_zero (S := S256x4) hz2 inb_S256x4_S256x4_0_0 _,
  View.ld_unit_zero (S := S384x128) hz2 inb_S384x128_S384x128_0_0 _,
  View.ld_unit_zero (S := S512x64) hz2 inb_S512x64_S512x64_0_0 _,
  View.ld_unit_zero (S := S64x512) hz2 inb_S64x512_S64x512_0_0 _,
  View.ld_unit_zero (S := S64x64) hz2 inb_S64x64_S64x64_0_0 _]
  exact half0_vec (halfOf x0 0) x1 x2 x3 x4 x5 x6 x7 x8 x9 x10

/-- The first half's lengths. -/
theorem norms0 : k0_pay25 x0 x1 x2 x3 x4 x5 x6 x7 x8 x9 x10 x11 x12 x13 x14 x15 x16 x17 x18 x19 = knorms (kvec (halfOf x0 0) x1 x2 x3 x4 x5 x6 x7 x8 x9 x10) x12 := by
  unfold k0_pay25 k0_pay23
  simp only [ld0, ld1, View.ld_unit_zero (S := S128x64) hz2 inb_S128x64_S128x64_0_0 _,
  View.ld_unit_zero (S := S12x128) hz2 inb_S12x128_S12x128_0_0 _,
  View.ld_unit_zero (S := S192x128) hz2 inb_S192x128_S192x128_0_0 _,
  View.ld_unit_zero (S := S1x128) hz2 inb_S1x128_S1x128_0_0 _,
  View.ld_unit_zero (S := S1x4) hz2 inb_S1x4_S1x4_0_0 _,
  View.ld_unit_zero (S := S1x512) hz2 inb_S1x512_S1x512_0_0 _,
  View.ld_unit_zero (S := S1x64) hz2 inb_S1x64_S1x64_0_0 _,
  View.ld_unit_zero (S := S256x128) hz2 inb_S256x128_S256x128_0_0 _,
  View.ld_unit_zero (S := S256x4) hz2 inb_S256x4_S256x4_0_0 _,
  View.ld_unit_zero (S := S384x128) hz2 inb_S384x128_S384x128_0_0 _,
  View.ld_unit_zero (S := S512x64) hz2 inb_S512x64_S512x64_0_0 _,
  View.ld_unit_zero (S := S64x512) hz2 inb_S64x512_S64x512_0_0 _,
  View.ld_unit_zero (S := S64x64) hz2 inb_S64x64_S64x64_0_0 _]
  exact half0_norms (halfOf x0 0) x1 x2 x3 x4 x5 x6 x7 x8 x9 x10 x12

/-- The second half's vectors. -/
theorem vec1 : k0_pay26 x0 x1 x2 x3 x4 x5 x6 x7 x8 x9 x10 x11 x12 x13 x14 x15 x16 x17 x18 x19 = kvec (halfOf x0 1) x1 x2 x3 x4 x5 x6 x7 x8 x9 x10 := by
  unfold k0_pay26
  simp only [ld0, ld1, View.ld_unit_zero (S := S128x64) hz2 inb_S128x64_S128x64_0_0 _,
  View.ld_unit_zero (S := S12x128) hz2 inb_S12x128_S12x128_0_0 _,
  View.ld_unit_zero (S := S192x128) hz2 inb_S192x128_S192x128_0_0 _,
  View.ld_unit_zero (S := S1x128) hz2 inb_S1x128_S1x128_0_0 _,
  View.ld_unit_zero (S := S1x4) hz2 inb_S1x4_S1x4_0_0 _,
  View.ld_unit_zero (S := S1x512) hz2 inb_S1x512_S1x512_0_0 _,
  View.ld_unit_zero (S := S1x64) hz2 inb_S1x64_S1x64_0_0 _,
  View.ld_unit_zero (S := S256x128) hz2 inb_S256x128_S256x128_0_0 _,
  View.ld_unit_zero (S := S256x4) hz2 inb_S256x4_S256x4_0_0 _,
  View.ld_unit_zero (S := S384x128) hz2 inb_S384x128_S384x128_0_0 _,
  View.ld_unit_zero (S := S512x64) hz2 inb_S512x64_S512x64_0_0 _,
  View.ld_unit_zero (S := S64x512) hz2 inb_S64x512_S64x512_0_0 _,
  View.ld_unit_zero (S := S64x64) hz2 inb_S64x64_S64x64_0_0 _]
  exact half1_vec (halfOf x0 1) x1 x2 x3 x4 x5 x6 x7 x8 x9 x10

/-- The second half's chosen codes. -/
theorem q1 : k0_pay27 x0 x1 x2 x3 x4 x5 x6 x7 x8 x9 x10 x11 x12 x13 x14 x15 x16 x17 x18 x19 = kq (knum (kvec (halfOf x0 1) x1 x2 x3 x4 x5 x6 x7 x8 x9 x10) x11 x12) x13 := by
  unfold k0_pay27
  simp only [vec1, View.ld_unit_zero (S := S128x64) hz2 inb_S128x64_S128x64_0_0 _,
  View.ld_unit_zero (S := S12x128) hz2 inb_S12x128_S12x128_0_0 _,
  View.ld_unit_zero (S := S192x128) hz2 inb_S192x128_S192x128_0_0 _,
  View.ld_unit_zero (S := S1x128) hz2 inb_S1x128_S1x128_0_0 _,
  View.ld_unit_zero (S := S1x4) hz2 inb_S1x4_S1x4_0_0 _,
  View.ld_unit_zero (S := S1x512) hz2 inb_S1x512_S1x512_0_0 _,
  View.ld_unit_zero (S := S1x64) hz2 inb_S1x64_S1x64_0_0 _,
  View.ld_unit_zero (S := S256x128) hz2 inb_S256x128_S256x128_0_0 _,
  View.ld_unit_zero (S := S256x4) hz2 inb_S256x4_S256x4_0_0 _,
  View.ld_unit_zero (S := S384x128) hz2 inb_S384x128_S384x128_0_0 _,
  View.ld_unit_zero (S := S512x64) hz2 inb_S512x64_S512x64_0_0 _,
  View.ld_unit_zero (S := S64x512) hz2 inb_S64x512_S64x512_0_0 _,
  View.ld_unit_zero (S := S64x64) hz2 inb_S64x64_S64x64_0_0 _]
  exact half1_q _ x11 x12 x13

/-- What a point stores of its reconstructions. -/
theorem stored20 (y : S2x4x4096.Idx) : out0_20 x0 x1 x2 x3 x4 x5 x6 x7 x8 x9 x10 x11 x12 x13 x14 x15 x16 x17 x18 x19 y
    = kdec (kq (knum (kvec (halfOf x0 (y 0)) x1 x2 x3 x4 x5 x6 x7 x8 x9 x10) x11 x12) x13) x14 x15 x16 x17 x18 x19 (ix3 0 (y 1) (y 2)) := by
  unfold out0_20
  simp only [vec0, norms0, q1, View.ld_unit_zero (S := S128x64) hz2 inb_S128x64_S128x64_0_0 _,
  View.ld_unit_zero (S := S12x128) hz2 inb_S12x128_S12x128_0_0 _,
  View.ld_unit_zero (S := S192x128) hz2 inb_S192x128_S192x128_0_0 _,
  View.ld_unit_zero (S := S1x128) hz2 inb_S1x128_S1x128_0_0 _,
  View.ld_unit_zero (S := S1x4) hz2 inb_S1x4_S1x4_0_0 _,
  View.ld_unit_zero (S := S1x512) hz2 inb_S1x512_S1x512_0_0 _,
  View.ld_unit_zero (S := S1x64) hz2 inb_S1x64_S1x64_0_0 _,
  View.ld_unit_zero (S := S256x128) hz2 inb_S256x128_S256x128_0_0 _,
  View.ld_unit_zero (S := S256x4) hz2 inb_S256x4_S256x4_0_0 _,
  View.ld_unit_zero (S := S384x128) hz2 inb_S384x128_S384x128_0_0 _,
  View.ld_unit_zero (S := S512x64) hz2 inb_S512x64_S512x64_0_0 _,
  View.ld_unit_zero (S := S64x512) hz2 inb_S64x512_S64x512_0_0 _,
  View.ld_unit_zero (S := S64x64) hz2 inb_S64x64_S64x64_0_0 _]
  canon_tiles x h
  · have e0 : (y 0 : Fin 2) = (1 : Fin 2) := Fin.ext (by show (y 0 : ℕ) = 1; omega)
    have e1 : y 1 = x 1 := Fin.ext (by omega)
    have e2 : y 2 = x 2 := Fin.ext (by omega)
    have ex : x = ix3 0 (x 1) (x 2) := (eq_ix3 x).trans (congrArg (fun a => ix3 a (x 1) (x 2)) (Subsingleton.elim _ _))
    rw [e0, e1, e2]
    refine (congrArg _ ex).trans ?_
    exact congrFun (half1_dec _ x14 x15 x16 x17 x18 x19) _
  · have e0 : (y 0 : Fin 2) = (0 : Fin 2) := Fin.ext (by show (y 0 : ℕ) = 0; omega)
    have e1 : y 1 = x 1 := Fin.ext (by omega)
    have e2 : y 2 = x 2 := Fin.ext (by omega)
    have ex : x = ix3 0 (x 1) (x 2) := (eq_ix3 x).trans (congrArg (fun a => ix3 a (x 1) (x 2)) (Subsingleton.elim _ _))
    rw [e0, e1, e2]
    refine (congrArg _ ex).trans ?_
    exact congrFun (half0_dec _ x11 x12 x13 x14 x15 x16 x17 x18 x19) _

/-- What a point stores of its code numbers. -/
theorem stored21 (y : S2x1x4096.Idx) : out0_21 x0 x1 x2 x3 x4 x5 x6 x7 x8 x9 x10 x11 x12 x13 x14 x15 x16 x17 x18 x19 y
    = krow (knum (kvec (halfOf x0 (y 0)) x1 x2 x3 x4 x5 x6 x7 x8 x9 x10) x11 x12) (ix3 0 (y 1) (y 2)) := by
  unfold out0_21
  simp only [vec0, norms0, vec1, View.ld_unit_zero (S := S128x64) hz2 inb_S128x64_S128x64_0_0 _,
  View.ld_unit_zero (S := S12x128) hz2 inb_S12x128_S12x128_0_0 _,
  View.ld_unit_zero (S := S192x128) hz2 inb_S192x128_S192x128_0_0 _,
  View.ld_unit_zero (S := S1x128) hz2 inb_S1x128_S1x128_0_0 _,
  View.ld_unit_zero (S := S1x4) hz2 inb_S1x4_S1x4_0_0 _,
  View.ld_unit_zero (S := S1x512) hz2 inb_S1x512_S1x512_0_0 _,
  View.ld_unit_zero (S := S1x64) hz2 inb_S1x64_S1x64_0_0 _,
  View.ld_unit_zero (S := S256x128) hz2 inb_S256x128_S256x128_0_0 _,
  View.ld_unit_zero (S := S256x4) hz2 inb_S256x4_S256x4_0_0 _,
  View.ld_unit_zero (S := S384x128) hz2 inb_S384x128_S384x128_0_0 _,
  View.ld_unit_zero (S := S512x64) hz2 inb_S512x64_S512x64_0_0 _,
  View.ld_unit_zero (S := S64x512) hz2 inb_S64x512_S64x512_0_0 _,
  View.ld_unit_zero (S := S64x64) hz2 inb_S64x64_S64x64_0_0 _]
  canon_tiles x h
  · have e0 : (y 0 : Fin 2) = (1 : Fin 2) := Fin.ext (by show (y 0 : ℕ) = 1; omega)
    have e1 : y 1 = x 1 := Fin.ext (by omega)
    have e2 : y 2 = x 2 := Fin.ext (by omega)
    have ex : x = ix3 0 (x 1) (x 2) := (eq_ix3 x).trans (congrArg (fun a => ix3 a (x 1) (x 2)) (Subsingleton.elim _ _))
    rw [e0, e1, e2]
    refine (congrArg _ ex).trans ?_
    exact congrFun (half1_row _ x11 x12) _
  · have e0 : (y 0 : Fin 2) = (0 : Fin 2) := Fin.ext (by show (y 0 : ℕ) = 0; omega)
    have e1 : y 1 = x 1 := Fin.ext (by omega)
    have e2 : y 2 = x 2 := Fin.ext (by omega)
    have ex : x = ix3 0 (x 1) (x 2) := (eq_ix3 x).trans (congrArg (fun a => ix3 a (x 1) (x 2)) (Subsingleton.elim _ _))
    rw [e0, e1, e2]
    refine (congrArg _ ex).trans ?_
    exact congrFun (half0_row _ x11 x12) _

/-- What a point stores of its loss parts. -/
theorem stored22 (y : S2x1x64.Idx) : out0_22 x0 x1 x2 x3 x4 x5 x6 x7 x8 x9 x10 x11 x12 x13 x14 x15 x16 x17 x18 x19 y
    = kpart (kvec (halfOf x0 (y 0)) x1 x2 x3 x4 x5 x6 x7 x8 x9 x10) (kq (knum (kvec (halfOf x0 (y 0)) x1 x2 x3 x4 x5 x6 x7 x8 x9 x10) x11 x12) x13) (ix3 0 (y 1) (y 2)) := by
  unfold out0_22
  simp only [vec0, norms0, vec1, View.ld_unit_zero (S := S128x64) hz2 inb_S128x64_S128x64_0_0 _,
  View.ld_unit_zero (S := S12x128) hz2 inb_S12x128_S12x128_0_0 _,
  View.ld_unit_zero (S := S192x128) hz2 inb_S192x128_S192x128_0_0 _,
  View.ld_unit_zero (S := S1x128) hz2 inb_S1x128_S1x128_0_0 _,
  View.ld_unit_zero (S := S1x4) hz2 inb_S1x4_S1x4_0_0 _,
  View.ld_unit_zero (S := S1x512) hz2 inb_S1x512_S1x512_0_0 _,
  View.ld_unit_zero (S := S1x64) hz2 inb_S1x64_S1x64_0_0 _,
  View.ld_unit_zero (S := S256x128) hz2 inb_S256x128_S256x128_0_0 _,
  View.ld_unit_zero (S := S256x4) hz2 inb_S256x4_S256x4_0_0 _,
  View.ld_unit_zero (S := S384x128) hz2 inb_S384x128_S384x128_0_0 _,
  View.ld_unit_zero (S := S512x64) hz2 inb_S512x64_S512x64_0_0 _,
  View.ld_unit_zero (S := S64x512) hz2 inb_S64x512_S64x512_0_0 _,
  View.ld_unit_zero (S := S64x64) hz2 inb_S64x64_S64x64_0_0 _]
  canon_tiles x h
  · have e0 : (y 0 : Fin 2) = (1 : Fin 2) := Fin.ext (by show (y 0 : ℕ) = 1; omega)
    have e1 : y 1 = x 1 := Fin.ext (by omega)
    have e2 : y 2 = x 2 := Fin.ext (by omega)
    have ex : x = ix3 0 (x 1) (x 2) := (eq_ix3 x).trans (congrArg (fun a => ix3 a (x 1) (x 2)) (Subsingleton.elim _ _))
    rw [e0, e1, e2]
    refine (congrArg _ ex).trans ?_
    exact congrFun (half1_part _ x11 x12 x13) _
  · have e0 : (y 0 : Fin 2) = (0 : Fin 2) := Fin.ext (by show (y 0 : ℕ) = 0; omega)
    have e1 : y 1 = x 1 := Fin.ext (by omega)
    have e2 : y 2 = x 2 := Fin.ext (by omega)
    have ex : x = ix3 0 (x 1) (x 2) := (eq_ix3 x).trans (congrArg (fun a => ix3 a (x 1) (x 2)) (Subsingleton.elim _ _))
    rw [e0, e1, e2]
    refine (congrArg _ ex).trans ?_
    exact congrFun (half0_part _ x11 x12 x13) _

end body

set_option maxHeartbeats 4000000 in
/-- Window 20's array after the run. -/
theorem final20 : (dats m 0 c).arrAt 20 (cfgs 0).N = yArr m c := by
  refine (dats m 0 c).arrAt_eq_of_covers 20 _ (by decide +kernel) fun t _ y => ?_
  have ht : t.val < 16 := lt_of_lt_of_eq t.isLt N_0
  obtain ⟨h1, h2, h3, h4, h5, h6, h7, h8, h9, h10, h11, h12, h13, h14, h15, h16, h17, h18, h19⟩ := whole m c t
  blk_simp
  rw [after0_20, h1, h2, h3, h4, h5, h6, h7, h8, h9, h10, h11, h12, h13, h14, h15, h16, h17, h18, h19]
  rw [stored20]
  have hy0 : (y 0 : ℕ) < 2 := (y 0).isLt
  have hn : 2 * t.1 + (y 0 : ℕ) < 32 := by omega
  rw [slab_eq m c t ⟨2 * t.1 + (y 0 : ℕ), hn⟩ (y 0) rfl]
  have he : ((cfg0.win 20).blk t).view.emb y = (ix3 ⟨2 * t.1 + (y 0 : ℕ), hn⟩ (y 1) (y 2) : S32x4x4096.Idx) := by
    blk_ext [(idx0 t).2.1]
  exact (congrArg (yArr m c) he).symm

set_option maxHeartbeats 4000000 in
/-- Window 21's array after the run. -/
theorem final21 : (dats m 0 c).arrAt 21 (cfgs 0).N = iArr m c := by
  refine (dats m 0 c).arrAt_eq_of_covers 21 _ (by decide +kernel) fun t _ y => ?_
  have ht : t.val < 16 := lt_of_lt_of_eq t.isLt N_0
  obtain ⟨h1, h2, h3, h4, h5, h6, h7, h8, h9, h10, h11, h12, h13, h14, h15, h16, h17, h18, h19⟩ := whole m c t
  blk_simp
  rw [after0_21, h1, h2, h3, h4, h5, h6, h7, h8, h9, h10, h11, h12, h13, h14, h15, h16, h17, h18, h19]
  rw [stored21]
  have hy0 : (y 0 : ℕ) < 2 := (y 0).isLt
  have hn : 2 * t.1 + (y 0 : ℕ) < 32 := by omega
  rw [slab_eq m c t ⟨2 * t.1 + (y 0 : ℕ), hn⟩ (y 0) rfl]
  have he : ((cfg0.win 21).blk t).view.emb y = (ix3 ⟨2 * t.1 + (y 0 : ℕ), hn⟩ (y 1) (y 2) : S32x1x4096.Idx) := by
    blk_ext [(idx0 t).2.2.1]
  exact (congrArg (iArr m c) he).symm

set_option maxHeartbeats 4000000 in
/-- Window 22's array after the run. -/
theorem final22 : (dats m 0 c).arrAt 22 (cfgs 0).N = lArr m c := by
  refine (dats m 0 c).arrAt_eq_of_covers 22 _ (by decide +kernel) fun t _ y => ?_
  have ht : t.val < 16 := lt_of_lt_of_eq t.isLt N_0
  obtain ⟨h1, h2, h3, h4, h5, h6, h7, h8, h9, h10, h11, h12, h13, h14, h15, h16, h17, h18, h19⟩ := whole m c t
  blk_simp
  rw [after0_22, h1, h2, h3, h4, h5, h6, h7, h8, h9, h10, h11, h12, h13, h14, h15, h16, h17, h18, h19]
  rw [stored22]
  have hy0 : (y 0 : ℕ) < 2 := (y 0).isLt
  have hn : 2 * t.1 + (y 0 : ℕ) < 32 := by omega
  rw [slab_eq m c t ⟨2 * t.1 + (y 0 : ℕ), hn⟩ (y 0) rfl]
  have he : ((cfg0.win 22).blk t).view.emb y = (ix3 ⟨2 * t.1 + (y 0 : ℕ), hn⟩ (y 1) (y 2) : S32x1x64.Idx) := by
    blk_ext [(idx0 t).2.2.2]
  exact (congrArg (lArr m c) he).symm

end Cert.KernelIdeal.Value
-- ==== Proof.Weights.lean ====
/- What the host leaves in the buffers the launch reads: each weight of the kernel, entry by entry, in terms of the
   arguments. -/
module

public import proofs.«01_k».proof.Proof.FrameKernelIdeal
public import proofs.«01_k».proof.Proof.Body
public import Idealize.ShloMosaic.Lib.Pointwise
public import Idealize.ShloMosaic.Lib.Claim

@[expose] public section

set_option maxRecDepth 16384
noncomputable section
open Idealize.ShloMosaic Idealize.ShloMosaic.TcCoe Idealize.SL.Sem
namespace Cert.KernelIdeal.Value
open Cert.KernelIdeal Cert.KernelIdeal.Gen
variable (m : (ℓ : Loc nD τ sig) → Buf (Elt Ideal) ℓ) (c : Dev nD)

/-- The input. -/
abbrev A0 : FVec Ideal S32x1x16384 .f32 := m ((c : Thread nD τ).loc main_arg0)
/-- The first layer's weights. -/
abbrev A1 : FVec Ideal S64x1x4 .f32 := m ((c : Thread nD τ).loc main_arg1)
/-- The first layer's bias. -/
abbrev A2 : FVec Ideal S64 .f32 := m ((c : Thread nD τ).loc main_arg2)
/-- The second layer's weights. -/
abbrev A3 : FVec Ideal S128x64x4 .f32 := m ((c : Thread nD τ).loc main_arg3)
/-- The second layer's bias. -/
abbrev A4 : FVec Ideal S128 .f32 := m ((c : Thread nD τ).loc main_arg4)
/-- The third layer's weights. -/
abbrev A5 : FVec Ideal S128x128x3 .f32 := m ((c : Thread nD τ).loc main_arg5)
/-- The third layer's bias. -/
abbrev A6 : FVec Ideal S128 .f32 := m ((c : Thread nD τ).loc main_arg6)
/-- The fourth layer's weights. -/
abbrev A7 : FVec Ideal S64x128x1 .f32 := m ((c : Thread nD τ).loc main_arg7)
/-- The fourth layer's bias. -/
abbrev A8 : FVec Ideal S64 .f32 := m ((c : Thread nD τ).loc main_arg8)
/-- The projection's weights. -/
abbrev A9 : FVec Ideal S64x64x1 .f32 := m ((c : Thread nD τ).loc main_arg9)
/-- The projection's bias. -/
abbrev A10 : FVec Ideal S64 .f32 := m ((c : Thread nD τ).loc main_arg10)
/-- The codebook. -/
abbrev A11 : FVec Ideal S512x64 .f32 := m ((c : Thread nD τ).loc main_arg11)
/-- The first decoder layer's weights. -/
abbrev A12 : FVec Ideal S128x64x3 .f32 := m ((c : Thread nD τ).loc main_arg12)
/-- The first decoder layer's bias. -/
abbrev A13 : FVec Ideal S128 .f32 := m ((c : Thread nD τ).loc main_arg13)
/-- The second decoder layer's weights. -/
abbrev A14 : FVec Ideal S128x64x4 .f32 := m ((c : Thread nD τ).loc main_arg14)
/-- The second decoder layer's bias. -/
abbrev A15 : FVec Ideal S64 .f32 := m ((c : Thread nD τ).loc main_arg15)
/-- The last layer's weights. -/
abbrev A16 : FVec Ideal S64x1x4 .f32 := m ((c : Thread nD τ).loc main_arg16)
/-- The last layer's bias. -/
abbrev A17 : FVec Ideal S1 .f32 := m ((c : Thread nD τ).loc main_arg17)

/-- A buffer as the launch finds it is what the host's operations leave in it. -/
theorem entry (b : Ref sig .tc) : V m c b = StableHlo.after hostOps0 (fun b => m (c, b)) (Proc.tc.devRef b) := by
  unfold V V0
  rw [List.flatten_cons, List.flatten_nil, List.append_nil]

/-- Entries at equal places are equal. -/
theorem at3 {l1 l2 l3 : ℕ} (A : FVec Ideal (⟨3, ![l1, l2, l3]⟩ : Shape) .f32) {i i' : Fin l1} {j j' : Fin l2} {k k' : Fin l3}
    (hi : i.1 = i'.1) (hj : j.1 = j'.1) (hk : k.1 = k'.1) : A (ix3 i j k) = A (ix3 i' j' k') := by
  rw [Fin.ext hi, Fin.ext hj, Fin.ext hk]

/-- The first layer's four taps, in each half of the columns shifted by two rows, zeros elsewhere. -/
def taps1 (a : FVec Ideal S64x1x4 .f32) : FVec Ideal S12x128 .bf16 :=
  let t := transpose S4x64 [1, 0] (shapeCast S64x4 a shapeCasts_S64x1x4_S64x4) transposes_S64x4_S4x64_1_0
  let z3 := broadcastInDim S3x64 ![] bcast_S_S3x64 (constant (F := Ideal) S_ .f32 0x00000000#32)
  let z5 := broadcastInDim S5x64 ![] bcast_S_S5x64 (constant (F := Ideal) S_ .f32 0x00000000#32)
  truncf .bf16 (concatenate S12x128 1
    [⟨S12x64, concatenate S12x64 0 [⟨S3x64, z3⟩, ⟨S4x64, t⟩, ⟨S5x64, z5⟩] concatenates_S3x64_S4x64_S5x64_S12x64_d0⟩,
     ⟨S12x64, concatenate S12x64 0 [⟨S5x64, z5⟩, ⟨S4x64, t⟩, ⟨S3x64, z3⟩] concatenates_S5x64_S4x64_S3x64_S12x64_d0⟩]
    concatenates_S12x64_S12x64_S12x128_d1) bitsLt_bf16_f32

/-- The second decoder layer's reversed taps, those of the two phases side by side. -/
def taps2 (a : FVec Ideal S128x64x4 .f32) : FVec Ideal S384x128 .bf16 :=
  let t := Host.reverse [0] (transpose S4x128x64 [2, 0, 1] a transposes_S128x64x4_S4x128x64_2_0_1)
  let z := broadcastInDim S128x64 ![] bcast_S_S128x64 (constant (F := Ideal) S_ .f32 0x00000000#32)
  let t0 := shapeCast S128x64 (extractStridedSlice S1x128x64 ![0, 0, 0] t slices_S4x128x64_S1x128x64_0_0_0) shapeCasts_S1x128x64_S128x64
  let t2 := shapeCast S128x64 (extractStridedSlice S1x128x64 ![2, 0, 0] t slices_S4x128x64_S1x128x64_2_0_0) shapeCasts_S1x128x64_S128x64
  let t1 := shapeCast S128x64 (extractStridedSlice S1x128x64 ![1, 0, 0] t slices_S4x128x64_S1x128x64_1_0_0) shapeCasts_S1x128x64_S128x64
  let t3 := shapeCast S128x64 (extractStridedSlice S1x128x64 ![3, 0, 0] t slices_S4x128x64_S1x128x64_3_0_0) shapeCasts_S1x128x64_S128x64
  truncf .bf16 (concatenate S384x128 0
    [⟨S128x128, concatenate S128x128 1 [⟨S128x64, t0⟩, ⟨S128x64, z⟩] concatenates_S128x64_S128x64_S128x128_d1⟩,
     ⟨S128x128, concatenate S128x128 1 [⟨S128x64, t2⟩, ⟨S128x64, t1⟩] concatenates_S128x64_S128x64_S128x128_d1⟩,
     ⟨S128x128, concatenate S128x128 1 [⟨S128x64, z⟩, ⟨S128x64, t3⟩] concatenates_S128x64_S128x64_S128x128_d1⟩]
    concatenates_S128x128_S128x128_S128x128_S384x128_d0) bitsLt_bf16_f32

/-- The last layer's reversed taps, those of the four phases side by side. -/
def taps3 (a : FVec Ideal S64x1x4 .f32) : FVec Ideal S256x4 .bf16 :=
  let v := transpose S4x64 [1, 0] (shapeCast S64x4 (Host.reverse [2] a) shapeCasts_S64x1x4_S64x4) transposes_S64x4_S4x64_1_0
  let z := broadcastInDim S64 ![] bcast_S_S64 (constant (F := Ideal) S_ .f32 0x00000000#32)
  let zz := broadcastInDim S128 ![] bcast_S_S128 (constant (F := Ideal) S_ .f32 0x00000000#32)
  let v0 := shapeCast S64 (extractStridedSlice S1x64 ![0, 0] v slices_S4x64_S1x64_0_0) shapeCasts_S1x64_S64
  let v1 := shapeCast S64 (extractStridedSlice S1x64 ![1, 0] v slices_S4x64_S1x64_1_0) shapeCasts_S1x64_S64
  let v2 := shapeCast S64 (extractStridedSlice S1x64 ![2, 0] v slices_S4x64_S1x64_2_0) shapeCasts_S1x64_S64
  let v3 := shapeCast S64 (extractStridedSlice S1x64 ![3, 0] v slices_S4x64_S1x64_3_0) shapeCasts_S1x64_S64
  let up (u : FVec Ideal S256 .f32) := broadcastInDim S256x1 ![0] bcast_S256_S256x1_0 u
  truncf .bf16 (concatenate S256x4 1
    [⟨S256x1, up (concatenate S256 0 [⟨S64, v0⟩, ⟨S64, v2⟩, ⟨S128, zz⟩] concatenates_S64_S64_S128_S256_d0)⟩,
     ⟨S256x1, up (concatenate S256 0 [⟨S64, z⟩, ⟨S64, v1⟩, ⟨S64, v3⟩, ⟨S64, z⟩] concatenates_S64_S64_S64_S64_S256_d0)⟩,
     ⟨S256x1, up (concatenate S256 0 [⟨S64, z⟩, ⟨S64, v0⟩, ⟨S64, v2⟩, ⟨S64, z⟩] concatenates_S64_S64_S64_S64_S256_d0)⟩,
     ⟨S256x1, up (concatenate S256 0 [⟨S128, zz⟩, ⟨S64, v1⟩, ⟨S64, v3⟩] concatenates_S128_S64_S64_S256_d0)⟩]
    concatenates_S256x1_S256x1_S256x1_S256x1_S256x4_d1) bitsLt_bf16_f32

set_option maxRecDepth 1000000 in
/-- The host builds the first layer's weights so. -/
theorem built1 : V m c main_v82 = taps1 (A1 m c) := rfl

set_option maxRecDepth 1000000 in
/-- The host builds the second decoder layer's weights so. -/
theorem built2 : V m c main_v89 = taps2 (A14 m c) := rfl

set_option maxHeartbeats 4000000 in
set_option maxRecDepth 1000000 in
/-- The host builds the last layer's weights so. -/
theorem built3 : V m c main_v90 = taps3 (A16 m c) := rfl

/-- The input, its positions dealt out by their remainder modulo four. -/
theorem w_x (n : Fin 32) (r : Fin 4) (p : Fin 4096) (q : Fin 16384) (hq : q.1 = 4 * p + r) :
    (V m c main_v81 : FVec Ideal S32x4x4096 .bf16) (ix3 n r p)
      = (A0 m c (ix3 n 0 q) : EReal) := by
  rw [entry]; unfold hostOps0; entry_read; pointwise
  exact congrArg (A0 m c) (congrArg (ix3 n 0) (Fin.ext (by dsimp only; omega)))

/-- The first layer's weights: each half of the columns holds the four taps, shifted by two rows. -/
theorem w_w1 (e : Fin 2) (j : Fin 12) (i : Fin 64) (o : Fin 128) (ho : o.1 = 64 * e + i) :
    (V m c main_v82 : FVec Ideal S12x128 .bf16) (ix2 j o)
      = if h : 3 + 2 * e.1 ≤ j.1 ∧ j.1 - 3 - 2 * e.1 < 4 then
          (A1 m c (ix3 i 0 ⟨j.1 - 3 - 2 * e.1, h.2⟩) : EReal) else 0 := by
  rw [built1]; pointwise [taps1]
  have he := e.isLt
  have hi := i.isLt
  repeat' split
  all_goals first | rfl | (exfalso; omega) | (refine at3 (A1 m c) ?_ ?_ ?_ <;> first | rfl | (dsimp only; omega))

/-- The first layer's bias, once for each half. -/
theorem w_b1 (e : Fin 2) (i : Fin 64) (o : Fin 128) (ho : o.1 = 64 * e + i) :
    (V m c main_v8 : FVec Ideal S1x128 .f32) (ix2 0 o)
      = (A2 m c (ix1 i) : EReal) := by
  rw [entry]; unfold hostOps0; entry_read; pointwise
  split
  · exact congrArg (A2 m c) (congrArg ix1 (Fin.ext (by dsimp only; omega)))
  · exact congrArg (A2 m c) (congrArg ix1 (Fin.ext (by dsimp only; omega)))

/-- The second layer's weights, tap after tap. -/
theorem w_w2 (k : Fin 4) (i : Fin 64) (o : Fin 128) (r : Fin 256) (hr : r.1 = 64 * k + i) :
    (V m c main_v83 : FVec Ideal S256x128 .bf16) (ix2 r o)
      = (A3 m c (ix3 o i k) : EReal) := by
  rw [entry]; unfold hostOps0; entry_read; pointwise
  have h1 : r.1 % 64 = i.1 := by omega
  have h2 : r.1 / 64 = k.1 := by omega
  exact congrArg (A3 m c) (congrArg₂ (ix3 o) (Fin.ext h1) (Fin.ext h2))

/-- The second layer's bias. -/
theorem w_b2 (o : Fin 128) : (V m c main_v11 : FVec Ideal S1x128 .f32) (ix2 0 o)
      = (A4 m c (ix1 o) : EReal) := by
  rw [entry]; unfold hostOps0; entry_read; pointwise

/-- The fourth layer's weights, transposed. -/
theorem w_w4 (i : Fin 128) (o : Fin 64) : (V m c main_v85 : FVec Ideal S128x64 .bf16) (ix2 i o)
      = (A7 m c (ix3 o i 0) : EReal) := by
  rw [entry]; unfold hostOps0; entry_read; pointwise

/-- Twice the codebook, transposed. -/
theorem w_et (x : Fin 64) (k : Fin 512) : (V m c main_v23 : FVec Ideal S64x512 .f32) (ix2 x k)
      = Ideal.ofBits .f32 0x40000000#32 * (A11 m c (ix2 k x) : EReal) := by
  rw [entry]; unfold hostOps0; entry_read; pointwise

/-- The codebook's squared norms. -/
theorem w_e2 (k : Fin 512) : (V m c main_v26 : FVec Ideal S1x512 .f32) (ix2 0 k)
      = ∑ x : Fin 64, (A11 m c (ix2 k x) : EReal)
          * (A11 m c (ix2 k x) : EReal) := by
  rw [entry]; unfold hostOps0; entry_read; pointwise

/-- The second decoder layer's weights: the taps of the two phases side by side. -/
theorem w_wt1 (e : Fin 2) (j : Fin 3) (i : Fin 128) (o : Fin 64) (r : Fin 384) (s : Fin 128) (hr : r.1 = 128 * j + i)
    (hs : s.1 = 64 * e + o) : (V m c main_v89 : FVec Ideal S384x128 .bf16) (ix2 r s)
      = if h : e.1 ≤ 2 * j.1 ∧ 2 * j.1 - e.1 < 4 then
          (A14 m c (ix3 i o ⟨3 - (2 * j.1 - e.1), by omega⟩) : EReal) else 0 := by
  rw [built2]; pointwise [taps2]
  have he := e.isLt
  have hj := j.isLt
  simp (config := { decide := true }) only [↓reduceIte]
  repeat' split
  all_goals first | rfl | (exfalso; omega) | (refine at3 (A14 m c) ?_ ?_ ?_ <;> first | rfl | (dsimp only; omega) | (show _ = 3 - (2 * j.1 - e.1); simp; omega))

/-- The last layer's weights: the taps of the four phases side by side. -/
theorem w_wt2 (r j : Fin 4) (i : Fin 64) (x : Fin 256) (hx : x.1 = 64 * j + i) :
    (V m c main_v90 : FVec Ideal S256x4 .bf16) (ix2 x r)
      = if h : r.1 ≤ 2 * j.1 ∧ 2 * j.1 - r.1 < 4 then
          (A16 m c (ix3 i 0 ⟨3 - (2 * j.1 - r.1), by omega⟩) : EReal) else 0 := by
  rw [built3]; pointwise [taps3]
  have hr := r.isLt
  have hj := j.isLt
  simp (config := { decide := true }) only [↓reduceIte]
  repeat' split
  all_goals first | rfl | (exfalso; omega) | (refine at3 (A16 m c) ?_ ?_ ?_ <;> first | rfl | (dsimp only; omega) | (show _ = 3 - (2 * j.1 - r.1); simp; omega))

/-- The last layer's bias. -/
theorem w_bt2 (r : Fin 4) : (V m c main_v78 : FVec Ideal S1x4 .f32) (ix2 0 r)
      = (A17 m c (ix1 0) : EReal) := by
  rw [entry]; unfold hostOps0; entry_read; pointwise

end Cert.KernelIdeal.Value
-- ==== Proof.WeightsMore.lean ====
/- The plain weights the launch reads: the third layer's, the projection's, the codebook's and the first decoder
   layer's, and the remaining biases. -/
module

public import proofs.«01_k».proof.Proof.Weights

@[expose] public section

set_option maxRecDepth 16384
noncomputable section
open Idealize.ShloMosaic Idealize.ShloMosaic.TcCoe Idealize.SL.Sem
namespace Cert.KernelIdeal.Value
open Cert.KernelIdeal Cert.KernelIdeal.Gen
variable (m : (ℓ : Loc nD τ sig) → Buf (Elt Ideal) ℓ) (c : Dev nD)

/-- The third layer's weights, tap by tap. -/
theorem w_w3 (k : Fin 3) (i : Fin 128) (o : Fin 128) (r : Fin 384) (hr : r.1 = 128 * k + i) :
    (V m c main_v84 : FVec Ideal S384x128 .bf16) (ix2 r o)
      = (A5 m c (ix3 o i k) : EReal) := by
  rw [entry]; unfold hostOps0; entry_read; pointwise
  have h1 : r.1 % 128 = i.1 := by omega
  have h2 : r.1 / 128 = k.1 := by omega
  exact congrArg (A5 m c) (congrArg₂ (ix3 o) (Fin.ext h1) (Fin.ext h2))

/-- The third layer's bias. -/
theorem w_b3 (o : Fin 128) : (V m c main_v14 : FVec Ideal S1x128 .f32) (ix2 0 o) = (A6 m c (ix1 o) : EReal) := by
  rw [entry]; unfold hostOps0; entry_read; pointwise

/-- The fourth layer's bias. -/
theorem w_b4 (o : Fin 64) : (V m c main_v17 : FVec Ideal S1x64 .f32) (ix2 0 o) = (A8 m c (ix1 o) : EReal) := by
  rw [entry]; unfold hostOps0; entry_read; pointwise

/-- The projection's weights, transposed. -/
theorem w_wp (i : Fin 64) (o : Fin 64) : (V m c main_v86 : FVec Ideal S64x64 .bf16) (ix2 i o)
      = (A9 m c (ix3 o i 0) : EReal) := by
  rw [entry]; unfold hostOps0; entry_read; pointwise

/-- The projection's bias. -/
theorem w_bp (o : Fin 64) : (V m c main_v20 : FVec Ideal S1x64 .f32) (ix2 0 o) = (A10 m c (ix1 o) : EReal) := by
  rw [entry]; unfold hostOps0; entry_read; pointwise

/-- The codebook. -/
theorem w_cb (k : Fin 512) (x : Fin 64) : (V m c main_v87 : FVec Ideal S512x64 .bf16) (ix2 k x)
      = (A11 m c (ix2 k x) : EReal) := by
  rw [entry]; unfold hostOps0; entry_read; pointwise

/-- The first decoder layer's weights, tap by tap. -/
theorem w_wd1 (k : Fin 3) (i : Fin 64) (o : Fin 128) (r : Fin 192) (hr : r.1 = 64 * k + i) :
    (V m c main_v88 : FVec Ideal S192x128 .bf16) (ix2 r o)
      = (A12 m c (ix3 o i k) : EReal) := by
  rw [entry]; unfold hostOps0; entry_read; pointwise
  have h1 : r.1 % 64 = i.1 := by omega
  have h2 : r.1 / 64 = k.1 := by omega
  exact congrArg (A12 m c) (congrArg₂ (ix3 o) (Fin.ext h1) (Fin.ext h2))

/-- The first decoder layer's bias. -/
theorem w_bd1 (o : Fin 128) : (V m c main_v29 : FVec Ideal S1x128 .f32) (ix2 0 o) = (A13 m c (ix1 o) : EReal) := by
  rw [entry]; unfold hostOps0; entry_read; pointwise

/-- The second decoder layer's bias, once for each half. -/
theorem w_bt1 (e : Fin 2) (i : Fin 64) (o : Fin 128) (ho : o.1 = 64 * e + i) :
    (V m c main_v46 : FVec Ideal S1x128 .f32) (ix2 0 o)
      = (A15 m c (ix1 i) : EReal) := by
  rw [entry]; unfold hostOps0; entry_read; pointwise
  split
  · exact congrArg (A15 m c) (congrArg ix1 (Fin.ext (by dsimp only; omega)))
  · exact congrArg (A15 m c) (congrArg ix1 (Fin.ext (by dsimp only; omega)))

end Cert.KernelIdeal.Value
-- ==== Proof.Stages.lean ====
/- The kernel's convolution stages against the reference's, image by image. The kernel holds an image's positions as
   rows and the channels as columns; where a stage's positions come in pairs, the even ones are the first 64 columns
   and the odd ones the last 64. Each theorem says: a stage of the kernel applied to such a layout of the reference's
   array is that layout of the reference's next array. -/
module

public import proofs.«01_k».proof.Proof.Body
public import proofs.«01_k».proof.Proof.RefStages
public import Idealize.ShloMosaic.Lib.Pointwise

@[expose] public section

set_option maxRecDepth 16384

noncomputable section

namespace Cert.KernelIdeal.Value

open Idealize.ShloMosaic Idealize.ShloMosaic.TcCoe Cert.ReferenceIdeal.Value

/-- A sum over three equal pieces. -/
theorem sum_three (n N : ℕ) (hN : N = n + n + n) (f : Fin N → EReal) :
    ∑ x, f x = ∑ i : Fin n, f ⟨i, by omega⟩ + ∑ i : Fin n, f ⟨n + i, by omega⟩ + ∑ i : Fin n, f ⟨n + n + i, by omega⟩ := by
  subst hN
  rw [Fin.sum_univ_add, Fin.sum_univ_add]
  rfl

/-- A sum over four equal pieces. -/
theorem sum_four (n N : ℕ) (hN : N = n + n + n + n) (f : Fin N → EReal) :
    ∑ x, f x = ∑ i : Fin n, f ⟨i, by omega⟩ + ∑ i : Fin n, f ⟨n + i, by omega⟩ + ∑ i : Fin n, f ⟨n + n + i, by omega⟩
      + ∑ i : Fin n, f ⟨n + n + n + i, by omega⟩ := by
  subst hN
  rw [Fin.sum_univ_add, Fin.sum_univ_add, Fin.sum_univ_add]
  rfl

/-- Of three products and four taps' terms, the even taps' match the first two products. -/
theorem add_even {a b c a' b' c' d' : EReal} (h0 : a = a') (h1 : b = c') (h2 : c = 0) (h3 : b' = 0) (h4 : d' = 0) :
    a + b + c = a' + b' + c' + d' := by subst h0 h1 h2 h3 h4; simp

/-- Of three products and four taps' terms, the odd taps' match the last two products. -/
theorem add_odd {a b c a' b' c' d' : EReal} (h0 : a = 0) (h1 : b = b') (h2 : c = d') (h3 : a' = 0) (h4 : c' = 0) :
    a + b + c = a' + b' + c' + d' := by subst h0 h1 h2 h3 h4; simp

/-- Of four products and four taps' terms, the even taps' match the first two products. -/
theorem add_zero_two {a b c d a' b' c' d' : EReal} (h0 : a = a') (h1 : b = c') (h2 : c = 0) (h5 : d = 0) (h3 : b' = 0) (h4 : d' = 0) :
    a + b + c + d = a' + b' + c' + d' := by subst h0 h1 h2 h5 h3 h4; simp

/-- The odd taps' match the two products in the middle. -/
theorem add_one_three {a b c d a' b' c' d' : EReal} (h0 : a = 0) (h1 : b = b') (h2 : c = d') (h5 : d = 0) (h3 : a' = 0) (h4 : c' = 0) :
    a + b + c + d = a' + b' + c' + d' := by subst h0 h1 h2 h5 h3 h4; simp

/-- The even taps' match the two products in the middle. -/
theorem add_mid {a b c d a' b' c' d' : EReal} (h0 : a = 0) (h1 : b = a') (h2 : c = c') (h5 : d = 0) (h3 : b' = 0) (h4 : d' = 0) :
    a + b + c + d = a' + b' + c' + d' := by subst h0 h1 h2 h5 h3 h4; simp

/-- The odd taps' match the last two products. -/
theorem add_last {a b c d a' b' c' d' : EReal} (h0 : a = 0) (h1 : b = 0) (h2 : c = b') (h5 : d = d') (h3 : a' = 0) (h4 : c' = 0) :
    a + b + c + d = a' + b' + c' + d' := by subst h0 h1 h2 h5 h3 h4; simp

/-- The first 64 columns hold the even positions, the last 64 the odd ones. -/
def Pairs (z : FVec Ideal S4096x128 .bf16) (Z : FVec Ideal Cert.ReferenceIdeal.S32x64x8192 .f32) (n : Fin 32) : Prop :=
  (∀ (p : Fin 4096) (c : Fin 64) (r : Fin 128) (q : Fin 8192), r.1 = c → q.1 = 2 * p → z (ix2 p r) = Z (ix3 n c q))
  ∧ (∀ (p : Fin 4096) (c : Fin 64) (r : Fin 128) (q : Fin 8192), r.1 = 64 + c → q.1 = 2 * p + 1 → z (ix2 p r) = Z (ix3 n c q))

/-- The second convolution. -/
theorem kz2_eq {n : Fin 32} {z : FVec Ideal S4096x128 .bf16} {Z : FVec Ideal Cert.ReferenceIdeal.S32x64x8192 .f32}
    {w : FVec Ideal S256x128 .bf16} {W : FVec Ideal Cert.ReferenceIdeal.S128x64x4 .f32} {b : FVec Ideal S1x128 .f32} {B : FVec Ideal Cert.ReferenceIdeal.S128 .f32}
    (hz : Pairs z Z n) (hw : ∀ (k : Fin 4) (i : Fin 64) (o : Fin 128) (r : Fin 256), r.1 = 64 * k + i → w (ix2 r o) = W (ix3 o i k))
    (hb : ∀ o, b (ix2 0 o) = B (ix1 o)) (p : Fin 4096) (o : Fin 128) :
    kz2 z w b (ix2 p o) = enc2 W B Z (ix3 n o p) := by
  obtain ⟨hz0, hz1⟩ := hz
  pointwise [kz2, act, kp2, quad, down64, up64, evens, odds, enc2]
  rw [sum_four 64 256 rfl]
  refine congrArg₂ max (congrArg₂ (· + ·) (congrArg₂ (· + ·) (congrArg₂ (· + ·) (congrArg₂ (· + ·) ?_ ?_) ?_) ?_) (hb o)) rfl
  · refine Finset.sum_congr rfl fun i _ => congrArg₂ (· * ·) ?_ (hw 0 i o _ (by simp))
    dsimp only
    repeat' split
    all_goals first | omega | rfl | (refine hz1 _ _ _ _ ?_ ?_ <;> first | rfl | (dsimp only; omega) | omega)
  · refine Finset.sum_congr rfl fun i _ => congrArg₂ (· * ·) ?_ (hw 1 i o _ (by simp))
    dsimp only
    repeat' split
    all_goals first | omega | rfl | (refine hz0 _ _ _ _ ?_ ?_ <;> first | rfl | (dsimp only; omega) | omega)
  · refine Finset.sum_congr rfl fun i _ => congrArg₂ (· * ·) ?_ (hw 2 i o _ (by simp))
    dsimp only
    repeat' split
    all_goals first | omega | rfl | (refine hz1 _ _ _ _ ?_ ?_ <;> first | rfl | (dsimp only; omega) | omega)
  · refine Finset.sum_congr rfl fun i _ => congrArg₂ (· * ·) ?_ (hw 3 i o _ (by simp))
    dsimp only
    repeat' split
    all_goals first | omega | rfl | (refine hz0 _ _ _ _ ?_ ?_ <;> first | rfl | (dsimp only; omega) | omega)

/-- The first convolution: row `j` of the weights is the input at distance `j - 4` from the block's start, so it holds
    the even output's tap `j - 3` and the odd output's tap `j - 5`. -/
theorem kz1_eq {n : Fin 32} {x : FVec Ideal S1x4x4096 .bf16} {X : FVec Ideal Cert.ReferenceIdeal.S32x1x16384 .f32}
    {w : FVec Ideal S12x128 .bf16} {W : FVec Ideal Cert.ReferenceIdeal.S64x1x4 .f32} {b : FVec Ideal S1x128 .f32} {B : FVec Ideal Cert.ReferenceIdeal.S64 .f32}
    (hx : ∀ (r : Fin 4) (p : Fin 4096) (q : Fin 16384), q.1 = 4 * p + r → x (ix3 0 r p) = X (ix3 n 0 q))
    (hw : ∀ (e : Fin 2) (j : Fin 12) (c : Fin 64) (o : Fin 128), o.1 = 64 * e + c →
      w (ix2 j o) = if h : 3 + 2 * e.1 ≤ j ∧ j - 3 - 2 * e.1 < 4 then W (ix3 c 0 ⟨j - 3 - 2 * e.1, h.2⟩) else 0)
    (hb : ∀ (e : Fin 2) (c : Fin 64) (o : Fin 128), o.1 = 64 * e + c → b (ix2 0 o) = B (ix1 c)) :
    Pairs (kz1 x w b) (enc1 X W B) n := by
  constructor
  · intro p c o q ho hq
    pointwise [kz1, act, down4, up4, columns, enc1]
    refine congrArg₂ max (congrArg₂ (· + ·) ?_ (hb 0 c o (by simpa using ho))) rfl
    rw [Finset.sum_congr rfl fun r _ => congrArg _ (hw 0 r c o (by simpa using ho)), sum_three 4 12 rfl]
    simp only [Fin.sum_univ_four, Finset.univ_unique, Finset.sum_singleton]
    simp [-Fin.val_eq_zero_iff, ← add_assoc]
    refine congrArg₂ (· + ·) (congrArg₂ (· + ·) (congrArg₂ (· + ·) ?_ ?_) ?_) ?_
    all_goals
      repeat' split
      all_goals first | omega | rfl | (refine congrArg (· * _) (hx _ _ _ ?_); simp; omega)
  · intro p c o q ho hq
    pointwise [kz1, act, down4, up4, columns, enc1]
    refine congrArg₂ max (congrArg₂ (· + ·) ?_ (hb 1 c o (by simpa using ho))) rfl
    rw [Finset.sum_congr rfl fun r _ => congrArg _ (hw 1 r c o (by simpa using ho)), sum_three 4 12 rfl]
    simp only [Fin.sum_univ_four, Finset.univ_unique, Finset.sum_singleton]
    simp [-Fin.val_eq_zero_iff, ← add_assoc]
    refine congrArg₂ (· + ·) (congrArg₂ (· + ·) (congrArg₂ (· + ·) ?_ ?_) ?_) ?_
    all_goals
      repeat' split
      all_goals first | omega | rfl | (refine congrArg (· * _) (hx _ _ _ ?_); simp; omega)

/-- The third convolution. -/
theorem kz3_eq {n : Fin 32} {z : FVec Ideal S4096x128 .bf16} {Z : FVec Ideal Cert.ReferenceIdeal.S32x128x4096 .f32}
    {w : FVec Ideal S384x128 .bf16} {W : FVec Ideal Cert.ReferenceIdeal.S128x128x3 .f32} {b : FVec Ideal S1x128 .f32} {B : FVec Ideal Cert.ReferenceIdeal.S128 .f32}
    (hz : ∀ p c, z (ix2 p c) = Z (ix3 n c p)) (hw : ∀ (k : Fin 3) (i o : Fin 128) (r : Fin 384), r.1 = 128 * k + i → w (ix2 r o) = W (ix3 o i k))
    (hb : ∀ o, b (ix2 0 o) = B (ix1 o)) (p : Fin 4096) (o : Fin 128) :
    kz3 z w b (ix2 p o) = enc3 W B Z (ix3 n o p) := by
  pointwise [kz3, act, triple128, down128, up128, enc3]
  rw [sum_three 128 384 rfl]
  refine congrArg₂ max (congrArg₂ (· + ·) (congrArg₂ (· + ·) (congrArg₂ (· + ·) ?_ ?_) ?_) (hb o)) rfl
  · refine Finset.sum_congr rfl fun i _ => congrArg₂ (· * ·) ?_ (hw 0 i o _ (by simp))
    dsimp only
    repeat' split
    all_goals first | omega | rfl | (refine (hz _ _).trans (congrArg₂ (fun a b => Z (ix3 n a b)) ?_ ?_) <;> first | rfl | (ext; dsimp only; omega))
  · refine Finset.sum_congr rfl fun i _ => congrArg₂ (· * ·) ?_ (hw 1 i o _ (by simp))
    dsimp only
    repeat' split
    all_goals first | omega | rfl | (refine (hz _ _).trans (congrArg₂ (fun a b => Z (ix3 n a b)) ?_ ?_) <;> first | rfl | (ext; dsimp only; omega))
  · refine Finset.sum_congr rfl fun i _ => congrArg₂ (· * ·) ?_ (hw 2 i o _ (by simp))
    dsimp only
    repeat' split
    all_goals first | omega | rfl | (refine (hz _ _).trans (congrArg₂ (fun a b => Z (ix3 n a b)) ?_ ?_) <;> first | rfl | (ext; dsimp only; omega))

/-- The fourth convolution, of width one. -/
theorem kz4_eq {n : Fin 32} {z : FVec Ideal S4096x128 .bf16} {Z : FVec Ideal Cert.ReferenceIdeal.S32x128x4096 .f32}
    {w : FVec Ideal S128x64 .bf16} {W : FVec Ideal Cert.ReferenceIdeal.S64x128x1 .f32} {b : FVec Ideal S1x64 .f32} {B : FVec Ideal Cert.ReferenceIdeal.S64 .f32}
    (hz : ∀ p c, z (ix2 p c) = Z (ix3 n c p)) (hw : ∀ i o, w (ix2 i o) = W (ix3 o i 0))
    (hb : ∀ o, b (ix2 0 o) = B (ix1 o)) (p : Fin 4096) (o : Fin 64) :
    kz4 z w b (ix2 p o) = enc4 W B Z (ix3 n o p) := by
  pointwise [kz4, enc4]
  simp only [hz, hw, hb]

/-- The projection. -/
theorem kflat_eq {n : Fin 32} {z : FVec Ideal S4096x64 .bf16} {Z : FVec Ideal Cert.ReferenceIdeal.S32x64x4096 .f32}
    {w : FVec Ideal S64x64 .bf16} {W : FVec Ideal Cert.ReferenceIdeal.S64x64x1 .f32} {b : FVec Ideal S1x64 .f32} {B : FVec Ideal Cert.ReferenceIdeal.S64 .f32}
    (hz : ∀ p c, z (ix2 p c) = Z (ix3 n c p)) (hw : ∀ i o, w (ix2 i o) = W (ix3 o i 0))
    (hb : ∀ o, b (ix2 0 o) = B (ix1 o)) (p : Fin 4096) (o : Fin 64) :
    kflat z w b (ix2 p o) = inputs W B Z (ix3 n p o) := by
  pointwise [kflat, inputs]
  simp only [hz, hw, hb]

/-- The decoder's first convolution. -/
theorem kh_eq {n : Fin 32} {z : FVec Ideal S4096x64 .f32} {Z : FVec Ideal Cert.ReferenceIdeal.S32x64x4096 .f32}
    {w : FVec Ideal S192x128 .bf16} {W : FVec Ideal Cert.ReferenceIdeal.S128x64x3 .f32} {b : FVec Ideal S1x128 .f32} {B : FVec Ideal Cert.ReferenceIdeal.S128 .f32}
    (hz : ∀ p c, z (ix2 p c) = Z (ix3 n c p)) (hw : ∀ (k : Fin 3) (i : Fin 64) (o : Fin 128) (r : Fin 192), r.1 = 64 * k + i → w (ix2 r o) = W (ix3 o i k))
    (hb : ∀ o, b (ix2 0 o) = B (ix1 o)) (p : Fin 4096) (o : Fin 128) :
    kh z w b (ix2 p o) = dec1 W B Z (ix3 n o p) := by
  pointwise [kh, act, triple64, down64, up64, dec1]
  rw [sum_three 64 192 rfl]
  refine congrArg₂ max (congrArg₂ (· + ·) (congrArg₂ (· + ·) (congrArg₂ (· + ·) ?_ ?_) ?_) (hb o)) rfl
  · refine Finset.sum_congr rfl fun i _ => congrArg₂ (· * ·) ?_ (hw 0 i o _ (by simp))
    dsimp only
    repeat' split
    all_goals first | omega | rfl | (refine (hz _ _).trans (congrArg₂ (fun a b => Z (ix3 n a b)) ?_ ?_) <;> first | rfl | (ext; dsimp only; omega))
  · refine Finset.sum_congr rfl fun i _ => congrArg₂ (· * ·) ?_ (hw 1 i o _ (by simp))
    dsimp only
    repeat' split
    all_goals first | omega | rfl | (refine (hz _ _).trans (congrArg₂ (fun a b => Z (ix3 n a b)) ?_ ?_) <;> first | rfl | (ext; dsimp only; omega))
  · refine Finset.sum_congr rfl fun i _ => congrArg₂ (· * ·) ?_ (hw 2 i o _ (by simp))
    dsimp only
    repeat' split
    all_goals first | omega | rfl | (refine (hz _ _).trans (congrArg₂ (fun a b => Z (ix3 n a b)) ?_ ?_) <;> first | rfl | (ext; dsimp only; omega))

/-- The first transposed convolution: the weights' block `j` is the input at distance `j - 1`, so it holds the even
    output's tap `2 j` and the odd output's tap `2 j - 1` of the reversed taps. -/
theorem kg_eq {n : Fin 32} {z : FVec Ideal S4096x128 .bf16} {Z : FVec Ideal Cert.ReferenceIdeal.S32x128x4096 .f32}
    {w : FVec Ideal S384x128 .bf16} {W : FVec Ideal Cert.ReferenceIdeal.S128x64x4 .f32} {b : FVec Ideal S1x128 .f32} {B : FVec Ideal Cert.ReferenceIdeal.S64 .f32}
    (hz : ∀ p c, z (ix2 p c) = Z (ix3 n c p))
    (hw : ∀ (e : Fin 2) (j : Fin 3) (i : Fin 128) (c : Fin 64) (r : Fin 384) (o : Fin 128), r.1 = 128 * j + i → o.1 = 64 * e + c →
      w (ix2 r o) = if h : e.1 ≤ 2 * j ∧ 2 * j - e.1 < 4 then W (ix3 i c ⟨3 - (2 * j - e.1), by omega⟩) else 0)
    (hb : ∀ (e : Fin 2) (c : Fin 64) (o : Fin 128), o.1 = 64 * e + c → b (ix2 0 o) = B (ix1 c)) :
    Pairs (kz3 z w b) (dec2 W B Z) n := by
  constructor
  · intro p c o q ho hq
    pointwise [kz3, act, triple128, down128, up128, dec2]
    rw [sum_three 128 384 rfl]
    refine congrArg₂ max (congrArg₂ (· + ·) ?_ (hb 0 c o (by simpa using ho))) rfl
    refine add_even ?_ ?_ ?_ ?_ ?_
    · refine Finset.sum_congr rfl fun i _ => congrArg₂ (· * ·) ?_ ((hw 0 0 i c _ o (by simp) (by simpa using ho)).trans (dif_pos (by decide)))
      dsimp only
      repeat' split
      all_goals first | omega | rfl | (refine (hz _ _).trans (congrArg₂ (fun a b => Z (ix3 n a b)) ?_ ?_) <;> first | rfl | (ext; dsimp only; omega))
    · refine Finset.sum_congr rfl fun i _ => congrArg₂ (· * ·) ?_ ((hw 0 1 i c _ o (by simp) (by simpa using ho)).trans (dif_pos (by decide)))
      dsimp only
      repeat' split
      all_goals first | omega | rfl | (refine (hz _ _).trans (congrArg₂ (fun a b => Z (ix3 n a b)) ?_ ?_) <;> first | rfl | (ext; dsimp only; omega))
    · exact Finset.sum_eq_zero fun i _ => by
        rw [(hw 0 2 i c ⟨128 + 128 + i, by omega⟩ o (by simp) (by simpa using ho)).trans (dif_neg (by decide)), mul_zero]
    · exact Finset.sum_eq_zero fun i _ => by rw [dif_neg (by omega), zero_mul]
    · exact Finset.sum_eq_zero fun i _ => by rw [dif_neg (by omega), zero_mul]
  · intro p c o q ho hq
    pointwise [kz3, act, triple128, down128, up128, dec2]
    rw [sum_three 128 384 rfl]
    refine congrArg₂ max (congrArg₂ (· + ·) ?_ (hb 1 c o (by simpa using ho))) rfl
    refine add_odd ?_ ?_ ?_ ?_ ?_
    · exact Finset.sum_eq_zero fun i _ => by
        rw [(hw 1 0 i c ⟨i, by omega⟩ o (by simp) (by simpa using ho)).trans (dif_neg (by decide)), mul_zero]
    · refine Finset.sum_congr rfl fun i _ => congrArg₂ (· * ·) ?_ ((hw 1 1 i c _ o (by simp) (by simpa using ho)).trans (dif_pos (by decide)))
      dsimp only
      repeat' split
      all_goals first | omega | rfl | (refine (hz _ _).trans (congrArg₂ (fun a b => Z (ix3 n a b)) ?_ ?_) <;> first | rfl | (ext; dsimp only; omega))
    · refine Finset.sum_congr rfl fun i _ => congrArg₂ (· * ·) ?_ ((hw 1 2 i c _ o (by simp) (by simpa using ho)).trans (dif_pos (by decide)))
      dsimp only
      repeat' split
      all_goals first | omega | rfl | (refine (hz _ _).trans (congrArg₂ (fun a b => Z (ix3 n a b)) ?_ ?_) <;> first | rfl | (ext; dsimp only; omega))
    · exact Finset.sum_eq_zero fun i _ => by rw [dif_neg (by omega), zero_mul]
    · exact Finset.sum_eq_zero fun i _ => by rw [dif_neg (by omega), zero_mul]

/-- The last transposed convolution: the weights' block `j` is the pair position `2 p - 1 + j`, so it holds output
    `4 p + r`'s tap `2 j - r` of the reversed taps. -/
theorem ky_eq {n : Fin 32} {z : FVec Ideal S4096x128 .bf16} {Z : FVec Ideal Cert.ReferenceIdeal.S32x64x8192 .f32}
    {w : FVec Ideal S256x4 .bf16} {W : FVec Ideal Cert.ReferenceIdeal.S64x1x4 .f32} {b : FVec Ideal S1x4 .f32} {B : FVec Ideal Cert.ReferenceIdeal.S1 .f32}
    (hz : Pairs z Z n)
    (hw : ∀ (r : Fin 4) (j : Fin 4) (i : Fin 64) (x : Fin 256), x.1 = 64 * j + i →
      w (ix2 x r) = if h : r.1 ≤ 2 * j ∧ 2 * j - r.1 < 4 then W (ix3 i 0 ⟨3 - (2 * j - r.1), by omega⟩) else 0)
    (hb : ∀ r, b (ix2 0 r) = B (ix1 0)) (r : Fin 4) (p : Fin 4096) (q : Fin 16384) (hq : q.1 = 4 * p + r) :
    ky z w b (ix3 0 r p) = dec3 W B Z (ix3 n 0 q) := by
  obtain ⟨hz0, hz1⟩ := hz
  pointwise [ky, quad, down64, up64, evens, odds, dec3]
  rw [sum_four 64 256 rfl]
  refine congrArg₂ (· + ·) ?_ (hb r)
  have off : ∀ (j : Fin 4) (i : Fin 64) (x : Fin 256) (a : EReal), x.1 = 64 * j + i → ¬ (r.1 ≤ 2 * j ∧ 2 * j - r.1 < 4) → a * w (ix2 x r) = 0 :=
    fun j i x a hx h => by rw [(hw r j i x hx).trans (dif_neg h), mul_zero]
  fin_cases r <;> dsimp only at hq off ⊢
  · refine add_zero_two ?_ ?_ ?_ ?_ ?_ ?_
    · refine Finset.sum_congr rfl fun i _ => congrArg₂ (· * ·) ?_ ((hw 0 0 i _ (by simp)).trans (dif_pos (by decide)))
      repeat' split
      all_goals first | omega | rfl | (refine hz1 _ _ _ _ ?_ ?_ <;> first | rfl | (dsimp only; omega) | omega)
    · refine Finset.sum_congr rfl fun i _ => congrArg₂ (· * ·) ?_ ((hw 0 1 i _ (by simp)).trans (dif_pos (by decide)))
      repeat' split
      all_goals first | omega | rfl | (refine hz0 _ _ _ _ ?_ ?_ <;> first | rfl | (dsimp only; omega) | omega)
    · exact Finset.sum_eq_zero fun i _ => off 2 i _ _ (by simp) (by decide)
    · exact Finset.sum_eq_zero fun i _ => off 3 i _ _ (by simp) (by decide)
    · exact Finset.sum_eq_zero fun i _ => by rw [dif_neg (by omega), zero_mul]
    · exact Finset.sum_eq_zero fun i _ => by rw [dif_neg (by omega), zero_mul]
  · refine add_one_three ?_ ?_ ?_ ?_ ?_ ?_
    · exact Finset.sum_eq_zero fun i _ => off 0 i _ _ (by simp) (by decide)
    · refine Finset.sum_congr rfl fun i _ => congrArg₂ (· * ·) ?_ ((hw 1 1 i _ (by simp)).trans (dif_pos (by decide)))
      repeat' split
      all_goals first | omega | rfl | (refine hz0 _ _ _ _ ?_ ?_ <;> first | rfl | (dsimp only; omega) | omega)
    · refine Finset.sum_congr rfl fun i _ => congrArg₂ (· * ·) ?_ ((hw 1 2 i _ (by simp)).trans (dif_pos (by decide)))
      repeat' split
      all_goals first | omega | rfl | (refine hz1 _ _ _ _ ?_ ?_ <;> first | rfl | (dsimp only; omega) | omega)
    · exact Finset.sum_eq_zero fun i _ => off 3 i _ _ (by simp) (by decide)
    · exact Finset.sum_eq_zero fun i _ => by rw [dif_neg (by omega), zero_mul]
    · exact Finset.sum_eq_zero fun i _ => by rw [dif_neg (by omega), zero_mul]
  · refine add_mid ?_ ?_ ?_ ?_ ?_ ?_
    · exact Finset.sum_eq_zero fun i _ => off 0 i _ _ (by simp) (by decide)
    · refine Finset.sum_congr rfl fun i _ => congrArg₂ (· * ·) ?_ ((hw 2 1 i _ (by simp)).trans (dif_pos (by decide)))
      repeat' split
      all_goals first | omega | rfl | (refine hz0 _ _ _ _ ?_ ?_ <;> first | rfl | (dsimp only; omega) | omega)
    · refine Finset.sum_congr rfl fun i _ => congrArg₂ (· * ·) ?_ ((hw 2 2 i _ (by simp)).trans (dif_pos (by decide)))
      repeat' split
      all_goals first | omega | rfl | (refine hz1 _ _ _ _ ?_ ?_ <;> first | rfl | (dsimp only; omega) | omega)
    · exact Finset.sum_eq_zero fun i _ => off 3 i _ _ (by simp) (by decide)
    · exact Finset.sum_eq_zero fun i _ => by rw [dif_neg (by omega), zero_mul]
    · exact Finset.sum_eq_zero fun i _ => by rw [dif_neg (by omega), zero_mul]
  · refine add_last ?_ ?_ ?_ ?_ ?_ ?_
    · exact Finset.sum_eq_zero fun i _ => off 0 i _ _ (by simp) (by decide)
    · exact Finset.sum_eq_zero fun i _ => off 1 i _ _ (by simp) (by decide)
    · refine Finset.sum_congr rfl fun i _ => congrArg₂ (· * ·) ?_ ((hw 3 2 i _ (by simp)).trans (dif_pos (by decide)))
      repeat' split
      all_goals first | omega | rfl | (refine hz1 _ _ _ _ ?_ ?_ <;> first | rfl | (dsimp only; omega) | omega)
    · refine Finset.sum_congr rfl fun i _ => congrArg₂ (· * ·) ?_ ((hw 3 3 i _ (by simp)).trans (dif_pos (by decide)))
      repeat' split
      all_goals first | omega | rfl | (refine hz0 _ _ _ _ ?_ ?_ <;> first | rfl | (dsimp only; omega) | omega)
    · exact Finset.sum_eq_zero fun i _ => by rw [dif_neg (by omega), zero_mul]
    · exact Finset.sum_eq_zero fun i _ => by rw [dif_neg (by omega), zero_mul]

end Cert.KernelIdeal.Value
-- ==== Proof.ArgMin.lean ====
/- The nearest code. Both programs find, in a row of distances, the least position that holds the row's least entry: the
   reference by a reduction of pairs (distance, position), the kernel by the minimum of the distances and then of the
   positions that hold it. -/
module

public import proofs.«01_k».proof.Proof.Body
public import proofs.«01_k».proof.Proof.RefStages
public import Idealize.ShloMosaic.Lib.Pointwise
public import Idealize.ShloMosaic.PureOps.Ideal.Laws
public import Idealize.ShloMosaic.PureOps.Reduce

@[expose] public section

set_option maxRecDepth 16384

noncomputable section

namespace Cert.KernelIdeal.Value

open Idealize.ShloMosaic Idealize.ShloMosaic.TcCoe Cert.ReferenceIdeal.Value

/-- `k` is the first position of the row's least entry. -/
def FirstMin (d : Fin 512 → EReal) (k : Fin 512) : Prop := (∀ l, d k ≤ d l) ∧ ∀ l, l < k → d k < d l

/-- There is at most one such position. -/
theorem FirstMin.unique {d : Fin 512 → EReal} {k l : Fin 512} (hk : FirstMin d k) (hl : FirstMin d l) : k = l := by
  rcases lt_trichotomy k l with h | h | h
  · exact absurd (hl.2 k h) (not_lt.mpr (hk.1 l))
  · exact h
  · exact absurd (hk.2 l h) (not_lt.mpr (hl.1 k))

/-- The word of positive infinity. -/
theorem inf32 : Ideal.ofBits .f32 0x7F800000#32 = ⊤ := by simp [Ideal.ofBits, Ideal.ieee]

/-! ## The reference -/

/-- A pair is at most another: a smaller distance, or the same one and no later a position. -/
def Le (p q : EReal × BitVec 32) : Prop := p.1 < q.1 ∨ (p.1 = q.1 ∧ p.2.toNat ≤ q.2.toNat)

/-- `Le` is transitive. -/
theorem Le.trans {p q r : EReal × BitVec 32} (h : Le p q) (h' : Le q r) : Le p r := by
  rcases h with h | ⟨h, i⟩ <;> rcases h' with h' | ⟨h', i'⟩
  · exact Or.inl (h.trans h')
  · exact Or.inl (h.trans_le h'.le)
  · exact Or.inl (h.le.trans_lt h')
  · exact Or.inr ⟨h.trans h', i.trans i'⟩

/-- Signed comparison of small words. -/
theorem slt_small {a b : BitVec 32} (ha : a.toNat < 512) (hb : b.toNat < 512) : a.slt b = decide (a.toNat < b.toNat) := by
  rw [BitVec.slt_eq_decide, BitVec.toInt_eq_toNat_of_lt (by omega), BitVec.toInt_eq_toNat_of_lt (by omega)]
  simp

/-- The reference's reducer chooses one of two pairs, at most both. -/
theorem reducer_spec (a b : EReal × BitVec 32) (ha : a.2.toNat < 512) (hb : b.2.toNat < 512) :
    (Cert.ReferenceIdeal.reducer_argmin_f32_i32 (F := Ideal) a b = a ∨ Cert.ReferenceIdeal.reducer_argmin_f32_i32 (F := Ideal) a b = b)
      ∧ Le (Cert.ReferenceIdeal.reducer_argmin_f32_i32 (F := Ideal) a b) a ∧ Le (Cert.ReferenceIdeal.reducer_argmin_f32_i32 (F := Ideal) a b) b := by
  obtain ⟨a1, a2⟩ := a
  obtain ⟨b1, b2⟩ := b
  have hs := slt_small ha hb
  simp only at ha hb hs
  have key : Cert.ReferenceIdeal.reducer_argmin_f32_i32 (F := Ideal) (a1, a2) (b1, b2)
      = if a1 < b1 ∨ (a1 = b1 ∧ a2.toNat < b2.toNat) then (a1, a2) else (b1, b2) := by
    by_cases h1 : a1 < b1 <;> by_cases h2 : a1 = b1 <;> by_cases h3 : a2.toNat < b2.toNat <;>
      simp [Cert.ReferenceIdeal.reducer_argmin_f32_i32, Ideal.cmpf_def, Ideal.cmp, IntOp.ori, IntOp.andi, IntOp.cmpi,
        Scalar.select, h1, h2, h3, hs]
  rw [key]
  split
  · next h =>
    refine ⟨Or.inl rfl, Or.inr ⟨rfl, le_refl _⟩, ?_⟩
    rcases h with h | ⟨h, i⟩
    · exact Or.inl h
    · exact Or.inr ⟨h, i.le⟩
  · next h =>
    refine ⟨Or.inr rfl, ?_, Or.inr ⟨rfl, le_refl _⟩⟩
    by_cases e : a1 = b1
    · exact Or.inr ⟨e.symm, not_lt.mp fun i => h (Or.inr ⟨e, i⟩)⟩
    · exact Or.inl (lt_of_le_of_ne (not_lt.mp fun i => h (Or.inl i)) fun i => e i.symm)

/-- The reduction of a list chooses the start or a member, at most all of them. -/
theorem foldl_spec (L : List (EReal × BitVec 32)) : ∀ z : EReal × BitVec 32, z.2.toNat < 512 → (∀ p ∈ L, p.2.toNat < 512) →
    (L.foldl (Cert.ReferenceIdeal.reducer_argmin_f32_i32 (F := Ideal)) z = z ∨ L.foldl (Cert.ReferenceIdeal.reducer_argmin_f32_i32 (F := Ideal)) z ∈ L)
      ∧ Le (L.foldl (Cert.ReferenceIdeal.reducer_argmin_f32_i32 (F := Ideal)) z) z
      ∧ ∀ p ∈ L, Le (L.foldl (Cert.ReferenceIdeal.reducer_argmin_f32_i32 (F := Ideal)) z) p := by
  induction L with
  | nil => exact fun z _ _ => ⟨Or.inl rfl, Or.inr ⟨rfl, le_refl _⟩, fun p hp => absurd hp List.not_mem_nil⟩
  | cons a L ih =>
    intro z hz hL
    obtain ⟨h1, h2, h3⟩ := reducer_spec z a hz (hL a List.mem_cons_self)
    have hr : (Cert.ReferenceIdeal.reducer_argmin_f32_i32 (F := Ideal) z a).2.toNat < 512 := by
      rcases h1 with h | h <;> rw [h]
      · exact hz
      · exact hL a List.mem_cons_self
    obtain ⟨i1, i2, i3⟩ := ih _ hr fun p hp => hL p (List.mem_cons_of_mem a hp)
    rw [List.foldl_cons]
    refine ⟨?_, i2.trans h2, fun p hp => ?_⟩
    · rcases i1 with h | h
      · rw [h]
        rcases h1 with h | h
        · exact Or.inl h
        · refine Or.inr ?_
          rw [h]
          exact List.mem_cons_self
      · exact Or.inr (List.mem_cons_of_mem a h)
    · rcases List.mem_cons.mp hp with rfl | hp
      · exact i2.trans h3
      · exact i3 p hp

/-- The pairs that the reference reduces for a position: each distance with its number. -/
theorem fiber_mem (d : FVec Ideal Cert.ReferenceIdeal.S131072x512 .f32) (j : Fin 131072) (p : EReal × BitVec 32) :
    p ∈ Host.argReduceFiber d (iotaInDim Cert.ReferenceIdeal.S131072x512 32 1)
      Cert.ReferenceIdeal.Gen.reducesTo_S131072x512_S131072_d1 (ix1 j) ↔ ∃ l : Fin 512, p = (d (ix2 j l), BitVec.ofNat 32 l.1) := by
  unfold Host.argReduceFiber
  simp only [List.mem_map, List.mem_filter, List.mem_finRange, true_and, decide_eq_true_eq]
  constructor
  · rintro ⟨n, hn, rfl⟩
    generalize Cert.ReferenceIdeal.S131072x512.rowMajor.symm n = i at hn ⊢
    have h0 := (Shape.ReducesTo.drop_apply_val_of_eq Cert.ReferenceIdeal.Gen.reducesTo_S131072x512_S131072_d1 i 0 0).symm
    rw [hn] at h0
    have hi : i = ix2 j (i 1) := (eq_ix2 i).trans (congrArg (fun a => ix2 a (i 1)) (Fin.ext h0))
    refine ⟨i 1, Prod.ext (congrArg d hi) ?_⟩
    rw [hi]
    pointwise
  · rintro ⟨l, rfl⟩
    refine ⟨Cert.ReferenceIdeal.S131072x512.rowMajor (ix2 j l), ?_, ?_⟩
    · rw [Equiv.symm_apply_apply]
      refine (eq_ix1 _).trans (congrArg ix1 (Fin.ext ?_))
      exact Shape.ReducesTo.drop_apply_val_of_eq Cert.ReferenceIdeal.Gen.reducesTo_S131072x512_S131072_d1 (ix2 j l) 0 0
    · rw [Equiv.symm_apply_apply]
      refine Prod.ext rfl ?_
      dsimp only
      pointwise

/-- A reduction of pairs as a fold of the list of its pairs. -/
theorem argReduce_fold {s t u : Shape} {axes : List (Fin s.rank)} (f : EReal × BitVec 32 → EReal × BitVec 32 → EReal × BitVec 32)
    (x : FVec Ideal s .f32) (y : s.Idx → BitVec 32) (ix : FVec Ideal u .f32) (iy : u.Idx → BitVec 32) (h : s.ReducesTo axes t)
    (hu : 0 < u.numel) (j : t.Idx) (hx : ix (Shape.Idx.first hu) = (⊤ : EReal)) (hy : iy (Shape.Idx.first hu) = 0#32) :
    (Host.argReduce (F := Ideal) (φ := .f32) f x y ix iy h hu j).2 = ((Host.argReduceFiber x y h j).foldl f ((⊤ : EReal), 0#32)).2 := by
  rw [Ideal.argReduce_eq_reduce2, Host.reduce2_eq_foldl_fiber, hx, hy]

/-- The reduction's first start value is the top. -/
theorem start_top (i) : (constant (F := Ideal) Cert.ReferenceIdeal.S_ .f32 0x7F800000#32) i = (⊤ : EReal) := inf32

/-- The reduction's second start value is zero. -/
theorem start_zero (i) : (constantI Cert.ReferenceIdeal.S_ 32 0#32) i = 0#32 := rfl

/-- The reference's codes are the second half of the pair-wise reduction. -/
theorem code_pairs (d : FVec Ideal Cert.ReferenceIdeal.S131072x512 .f32) :
    code d = fun j => (Host.argReduce (F := Ideal) (φ := .f32) Cert.ReferenceIdeal.reducer_argmin_f32_i32 d
      (iotaInDim Cert.ReferenceIdeal.S131072x512 32 1)
      (constant (F := Ideal) Cert.ReferenceIdeal.S_ .f32 0x7F800000#32) (constantI Cert.ReferenceIdeal.S_ 32 0#32)
      Cert.ReferenceIdeal.Gen.reducesTo_S131072x512_S131072_d1 Cert.ReferenceIdeal.Gen.h_S_ j).2 := rfl

/-- The reference's code is the reduction of those pairs. -/
theorem code_fold (d : FVec Ideal Cert.ReferenceIdeal.S131072x512 .f32) (j : Fin 131072) :
    code d (ix1 j) = ((Host.argReduceFiber d (iotaInDim Cert.ReferenceIdeal.S131072x512 32 1)
      Cert.ReferenceIdeal.Gen.reducesTo_S131072x512_S131072_d1 (ix1 j)).foldl
        (Cert.ReferenceIdeal.reducer_argmin_f32_i32 (F := Ideal)) ((⊤ : EReal), 0#32)).2 := by
  rw [code_pairs]
  exact argReduce_fold _ d _ _ _ _ _ _ (start_top _) (start_zero _)

/-- The reference's code is the first position of its row's least distance. -/
theorem code_spec (d : FVec Ideal Cert.ReferenceIdeal.S131072x512 .f32) (j : Fin 131072) :
    ∃ k : Fin 512, FirstMin (fun l => d (ix2 j l)) k ∧ code d (ix1 j) = BitVec.ofNat 32 k.1 := by
  have hmem := fiber_mem d j
  rw [code_fold]
  generalize Host.argReduceFiber d (iotaInDim Cert.ReferenceIdeal.S131072x512 32 1)
      Cert.ReferenceIdeal.Gen.reducesTo_S131072x512_S131072_d1 (ix1 j) = L at hmem ⊢
  obtain ⟨h1, -, h3⟩ := foldl_spec L ((⊤ : EReal), 0#32) (by decide) (by
        intro p hp
        obtain ⟨l, rfl⟩ := (hmem p).mp hp
        rw [BitVec.toNat_ofNat]
        exact lt_of_le_of_lt (Nat.mod_le _ _) l.isLt)
  generalize List.foldl _ _ _ = r at h1 h3 ⊢
  have hr : ∃ k : Fin 512, r = (d (ix2 j k), BitVec.ofNat 32 k.1) := by
    rcases h1 with h | h
    · have h0 := h3 _ ((hmem _).mpr ⟨0, rfl⟩)
      refine ⟨0, ?_⟩
      rw [h] at h0 ⊢
      rcases h0 with h0 | ⟨h0, -⟩
      · exact absurd h0 not_top_lt
      · exact Prod.ext h0 rfl
    · exact (hmem r).mp h
  obtain ⟨k, rfl⟩ := hr
  refine ⟨k, ⟨fun l => ?_, fun l hl => ?_⟩, rfl⟩
  · rcases h3 _ ((hmem _).mpr ⟨l, rfl⟩) with h | ⟨h, -⟩
    · exact h.le
    · exact h.le
  · rcases h3 _ ((hmem _).mpr ⟨l, rfl⟩) with h | ⟨-, h⟩
    · exact h
    · have hk := k.isLt
      have hl' := l.isLt
      simp only [BitVec.toNat_ofNat] at h
      exact absurd (show l.1 < k.1 from hl) (by omega)

/-! ## The kernel -/

/-- The least of small words, as numbers. -/
theorem fold_minsi {ι : Type} [DecidableEq ι] (s : Finset ι) (z : BitVec 32) (f : ι → BitVec 32) (hz : z.toNat < 2147483648)
    (hf : ∀ i, (f i).toNat < 2147483648) :
    (s.fold IntOp.minsi z f).toNat = s.fold min z.toNat fun i => (f i).toNat := by
  have key : (s.fold IntOp.minsi z f).toNat < 2147483648
      ∧ (s.fold IntOp.minsi z f).toNat = s.fold min z.toNat fun i => (f i).toNat := by
    refine Finset.induction_on s ⟨by simpa using hz, by simp⟩ fun a s ha ih => ?_
    rw [Finset.fold_insert ha, Finset.fold_insert ha, ← ih.2]
    have h1 := hf a
    have h2 := ih.1
    generalize s.fold IntOp.minsi z f = b at h2 ⊢
    generalize f a = a at h1 ⊢
    have hs : a.slt b = decide (a.toNat < b.toNat) := by
      rw [BitVec.slt_eq_decide, BitVec.toInt_eq_toNat_of_lt (by omega), BitVec.toInt_eq_toNat_of_lt (by omega)]
      simp
    by_cases h : a.toNat < b.toNat <;> simp [IntOp.minsi, BitVec.sle, hs, h] <;> omega
  exact key.2

/-- The kernel's code number is the first position of its row's least distance. -/
theorem kidx_eq (d : FVec Ideal Cert.KernelIdeal.S4096x512 .f32) (p : Fin 4096) (k : Fin 512)
    (hk : FirstMin (fun l => d (ix2 p l)) k) : kidx d (ix2 p 0) = BitVec.ofNat 32 k.1 := by
  have hk' := k.isLt
  unfold kidx
  pointwise [numbers]
  have hmin : Finset.fold min (Ideal.ofBits .f32 0x7F800000#32) (fun x => d (ix2 p x)) Finset.univ = d (ix2 p k) := by
    apply le_antisymm
    · exact (Finset.fold_min_le _).mpr (Or.inr ⟨k, Finset.mem_univ k, le_refl _⟩)
    · exact (Finset.le_fold_min _).mpr ⟨by rw [inf32]; exact le_top, fun x _ => hk.1 x⟩
  rw [hmin]
  apply BitVec.eq_of_toNat_eq
  rw [fold_minsi _ _ _ (by decide) fun i => by
    have := i.isLt
    split <;> simp only [BitVec.toNat_ofNat] <;> omega]
  apply le_antisymm
  · refine (Finset.fold_min_le _).mpr (Or.inr ⟨k, Finset.mem_univ k, ?_⟩)
    rw [if_pos rfl]
  · refine (Finset.le_fold_min _).mpr ⟨?_, fun x _ => ?_⟩
    · simp only [BitVec.toNat_ofNat]; omega
    · have hx := x.isLt
      split
      · next h =>
        have : ¬ x < k := fun hl => absurd h (ne_of_gt (hk.2 x hl))
        have : k.1 ≤ x.1 := not_lt.mp this
        simp only [BitVec.toNat_ofNat]; omega
      · simp only [BitVec.toNat_ofNat]; omega

end Cert.KernelIdeal.Value
-- ==== Proof.Codebook.lean ====
/- The codebook step: the kernel's distances, code numbers and chosen codes are the reference's. -/
module

public import proofs.«01_k».proof.Proof.ArgMin
public import proofs.«01_k».proof.Proof.RefValue

@[expose] public section

set_option maxRecDepth 16384

noncomputable section

namespace Cert.KernelIdeal.Value

open Idealize.ShloMosaic Idealize.ShloMosaic.TcCoe Cert.ReferenceIdeal.Value

/-- A finite factor that is not negative moves out of a sum. -/
theorem mul_sum_of_nonneg {ι : Type} (s : Finset ι) (a : EReal) (h0 : 0 ≤ a) (ht : a ≠ ⊤) (f : ι → EReal) :
    ∑ i ∈ s, a * f i = a * ∑ i ∈ s, f i := by
  classical
  induction s using Finset.induction_on with
  | empty => simp
  | insert i s hi ih => rw [Finset.sum_insert hi, Finset.sum_insert hi, ih, EReal.left_distrib_of_nonneg_of_ne_top h0 ht]

/-- The constant two. -/
theorem two32 : Ideal.ofBits .f32 0x40000000#32 = ((2 : ℝ) : EReal) := by
  simp [Ideal.ofBits, Ideal.ieee]
  rw [← EReal.coe_mul]
  norm_num

/-- The kernel's distances of an image's positions are the reference's. -/
theorem dist_eq (f : FVec Ideal S4096x64 .f32) (et : Vec Ideal S64x512 .f32) (e2 : Vec Ideal S1x512 .f32)
    (E : FVec Ideal Cert.ReferenceIdeal.S512x64 .f32) (Z : FVec Ideal Cert.ReferenceIdeal.S32x4096x64 .f32) (n : Fin 32)
    (hf : ∀ p x, f (ix2 p x) = Z (ix3 n p x))
    (het : ∀ x k, et (ix2 x k) = Ideal.ofBits .f32 0x40000000#32 * E (ix2 k x))
    (he2 : ∀ k, e2 (ix2 0 k) = ∑ x : Fin 64, E (ix2 k x) * E (ix2 k x))
    (p : Fin 4096) (k : Fin 512) (j : Fin 131072) (hj : j.1 = n * 4096 + p) :
    kdist f (knorms f e2) et (ix2 p k) = Cert.ReferenceIdeal.Value.dist E Z (ix2 j k) := by
  have h1 : j.1 / 4096 = n.1 := by omega
  have h2 : j.1 % 4096 = p.1 := by omega
  have hz : ∀ x, Z (ix3 ⟨j.1 / 4096, by omega⟩ ⟨j.1 % 4096, by omega⟩ x) = Z (ix3 n p x) := fun x =>
    congrArg Z (congrArg₂ (ix3 · · x) (Fin.ext h1) (Fin.ext h2))
  pointwise [kdist, knorms, Cert.ReferenceIdeal.Value.dist]
  simp only [hz, hf, het, he2]
  rw [← mul_sum_of_nonneg _ _ (by rw [two32]; exact_mod_cast zero_le_two) (by rw [two32]; exact EReal.coe_ne_top _)]
  congr 1
  exact Finset.sum_congr rfl fun x _ => mul_left_comm _ _ _

/-- What the word comparisons and readings give on the numbers below 512. -/
theorem small (k : Fin 512) : IntOp.cmpi .slt (BitVec.ofNat 32 k.1) 0#32 = 0#1 ∧ IntOp.cmpi .sge (BitVec.ofNat 32 k.1) 0#32 = 1#1
    ∧ IntOp.cmpi .sle (BitVec.ofNat 32 k.1) 511#32 = 1#1 ∧ min (BitVec.ofNat 32 k.1).toInt.toNat 511 = k.1 := by
  revert k; decide +kernel

/-- The table's row that a start index names. -/
theorem gather_row (E : FVec Ideal Cert.ReferenceIdeal.S512x64 .f32) (i : IVec Cert.ReferenceIdeal.S131072x1 32)
    (j : Fin 131072) (k : Fin 512) (o : Fin 64) (hi : i (ix2 j 0) = BitVec.ofNat 32 k.1) :
    Host.gather Cert.ReferenceIdeal.gather_S512x64_S131072x1_S131072x64_1_0_n_n_0_1_164 E i (ix2 j o) = E (ix2 k o) := by
  unfold Host.gather
  refine congrArg E (funext fun a => Fin.ext ?_)
  have hs : ∀ x, Cert.ReferenceIdeal.gather_S512x64_S131072x1_S131072x64_1_0_n_n_0_1_164.siIdx (ix2 j o) x = ix2 j 0 := by
    intro x
    refine (eq_ix2 _).trans (congrArg₂ ix2 rfl (Subsingleton.elim _ _))
  match a with
  | ⟨0, _⟩ =>
    show min (i (Cert.ReferenceIdeal.gather_S512x64_S131072x1_S131072x64_1_0_n_n_0_1_164.siIdx (ix2 j o) _)).toInt.toNat 511 + 0 + 0 = k.1
    rw [hs, hi, (small k).2.2.2]
    rfl
  | ⟨1, _⟩ =>
    show 0 + 0 + o.1 = o.1
    omega

/-- The reference's code vector at a position whose code is in range. -/
theorem taken_eq (E : FVec Ideal Cert.ReferenceIdeal.S512x64 .f32) (v : IVec Cert.ReferenceIdeal.S131072 32) (j : Fin 131072) (k : Fin 512) (o : Fin 64)
    (hv : v (ix1 j) = BitVec.ofNat 32 k.1) : taken E v (ix2 j o) = E (ix2 k o) := by
  obtain ⟨h1, h2, h3, -⟩ := small k
  pointwise [taken]
  rw [gather_row E _ j k o]
  · rw [hv, h1]
    show Scalar.select (Finset.fold IntOp.andi (1#1) (fun _ => IntOp.andi (IntOp.cmpi .sge (BitVec.ofNat 32 k.1) 0#32)
      (IntOp.cmpi .sle (BitVec.ofNat 32 k.1) 511#32)) Finset.univ) _ _ = _
    rw [h2, h3]
    rfl
  · pointwise
    rw [hv, h1]
    rfl

/-- The kernel's chosen code at a position whose number is in range. -/
theorem kq_eq (i : IVec S4096x1 32) (e : Vec Ideal S512x64 .bf16) (p : Fin 4096) (k : Fin 512) (o : Fin 64)
    (hi : i (ix2 p 0) = BitVec.ofNat 32 k.1) : kq i e (ix2 p o) = e (ix2 k o) := by
  pointwise [kq, numbers]
  rw [hi]
  rw [Finset.sum_eq_single k]
  · have h : IntOp.cmpi CmpIPredicate.eq (BitVec.ofNat 32 k.1) (BitVec.ofNat 32 k.1) = 1#1 := by simp [IntOp.cmpi]
    rw [h]
    have h1 : (FloatOps.sitofp (F := Ideal) .f32 (BitVec.setWidth 32 1#1) : EReal) = 1 := by
      simp [FloatOps.sitofp]
    rw [h1, one_mul]
  · intro x _ hx
    have h : IntOp.cmpi CmpIPredicate.eq (BitVec.ofNat 32 x.1) (BitVec.ofNat 32 k.1) = 0#1 := by
      have hne : BitVec.ofNat 32 x.1 ≠ BitVec.ofNat 32 k.1 := fun h => hx (Fin.ext (by
        have := congrArg BitVec.toNat h
        simp only [BitVec.toNat_ofNat] at this
        omega))
      simp only [IntOp.cmpi]
      rw [beq_eq_false_iff_ne.mpr hne]
      rfl
    rw [h]
    have h0 : (FloatOps.sitofp (F := Ideal) .f32 (BitVec.setWidth 32 0#1) : EReal) = 0 := by
      simp [FloatOps.sitofp]
    rw [h0, zero_mul]
  · intro h
    exact absurd (Finset.mem_univ k) h

/-- An image's positions, their numbers and chosen codes: the kernel's are the reference's. -/
theorem chosen_eq (f : FVec Ideal S4096x64 .f32) (et : Vec Ideal S64x512 .f32) (e2 : Vec Ideal S1x512 .f32) (e : Vec Ideal S512x64 .bf16)
    (E : FVec Ideal Cert.ReferenceIdeal.S512x64 .f32) (Z : FVec Ideal Cert.ReferenceIdeal.S32x4096x64 .f32) (n : Fin 32)
    (hf : ∀ p x, f (ix2 p x) = Z (ix3 n p x))
    (het : ∀ x k, et (ix2 x k) = Ideal.ofBits .f32 0x40000000#32 * E (ix2 k x))
    (he2 : ∀ k, e2 (ix2 0 k) = ∑ x : Fin 64, E (ix2 k x) * E (ix2 k x))
    (he : ∀ k x, e (ix2 k x) = E (ix2 k x))
    (p : Fin 4096) (j : Fin 131072) (hj : j.1 = n * 4096 + p) :
    knum f et e2 (ix2 p 0) = codes E Z (ix1 j) ∧ ∀ o, kq (knum f et e2) e (ix2 p o) = vectors E Z (ix2 j o) := by
  obtain ⟨k, hk, hc⟩ := code_spec (Cert.ReferenceIdeal.Value.dist E Z) j
  have hrow : (fun l => kdist f (knorms f e2) et (ix2 p l)) = fun l => Cert.ReferenceIdeal.Value.dist E Z (ix2 j l) :=
    funext fun l => dist_eq f et e2 E Z n hf het he2 p l j hj
  have hn : knum f et e2 (ix2 p 0) = BitVec.ofNat 32 k.1 := kidx_eq _ p k (by rw [hrow]; exact hk)
  refine ⟨hn.trans hc.symm, fun o => ?_⟩
  rw [kq_eq _ e p k o hn, he]
  exact (taken_eq E _ j k o hc).symm

end Cert.KernelIdeal.Value
-- ==== Proof.Loss.lean ====
/- The loss: the kernel's sum of the images' parts, scaled once, is the reference's mean plus a quarter of it. -/
module

public import proofs.«01_k».proof.Proof.Body
public import proofs.«01_k».proof.Proof.RefStages
public import Idealize.ShloMosaic.Lib.Pointwise
public import Idealize.ShloMosaic.PureOps.Ideal.Laws

@[expose] public section

set_option maxRecDepth 16384

noncomputable section

namespace Cert.KernelIdeal.Value

open Idealize.ShloMosaic Idealize.ShloMosaic.TcCoe Cert.ReferenceIdeal.Value

/-- A square is not negative. -/
theorem sq_nonneg' (a : EReal) : 0 ≤ a * a := by
  induction a with
  | bot => simp [EReal.bot_mul_bot]
  | top => simp [EReal.top_mul_top]
  | coe a => exact_mod_cast mul_self_nonneg a

/-- The number of entries, as the reference's constant. -/
theorem count32 : Ideal.ofBits .f32 0x4B000000#32 = ((8388608 : ℝ) : EReal) := by
  simp [Ideal.ofBits, Ideal.ieee]

/-- A quarter. -/
theorem quarter32 : Ideal.ofBits .f32 0x3E800000#32 = ((1 / 4 : ℝ) : EReal) := by
  simp [Ideal.ofBits, Ideal.ieee]
  rw [← EReal.coe_mul]
  norm_num

/-- The kernel's scale: five quarters over the number of entries. -/
theorem scale32 : Ideal.ofBits .f32 0x34200000#32 = ((5 / 4 / 8388608 : ℝ) : EReal) := by
  simp [Ideal.ofBits, Ideal.ieee]
  rw [← EReal.coe_mul]
  norm_num

/-- A mean and a quarter of it are the total times the kernel's scale. -/
theorem scaled (s : EReal) (h : 0 ≤ s) :
    s * Ideal.ofBits .f32 0x34200000#32
      = Ideal.div s (Ideal.ofBits .f32 0x4B000000#32) + Ideal.ofBits .f32 0x3E800000#32 * Ideal.div s (Ideal.ofBits .f32 0x4B000000#32) := by
  rw [count32, quarter32, scale32]
  induction s with
  | bot => exact absurd h (by simp)
  | top =>
    rw [Ideal.div_coe (by norm_num), EReal.top_mul_coe_of_pos (by norm_num), EReal.top_mul_coe_of_pos (by norm_num),
      EReal.coe_mul_top_of_pos (by norm_num), EReal.top_add_top]
  | coe s =>
    rw [Ideal.div_coe (by norm_num), ← EReal.coe_mul, ← EReal.coe_mul, ← EReal.coe_mul, ← EReal.coe_add]
    congr 1
    ring

/-- What the kernel adds up, against the reference's loss. -/
theorem loss_eq (f q : Fin 32 → FVec Ideal S4096x64 .f32) (Z : FVec Ideal Cert.ReferenceIdeal.S32x4096x64 .f32)
    (v : FVec Ideal Cert.ReferenceIdeal.S131072x64 .f32)
    (hf : ∀ n p x, f n (ix2 p x) = Z (ix3 n p x))
    (hq : ∀ (n : Fin 32) (p : Fin 4096) (x : Fin 64) (j : Fin 131072), j.1 = n * 4096 + p → q n (ix2 p x) = v (ix2 j x)) :
    (∑ n : Fin 32, ∑ x : Fin 64, kpart (f n) (q n) (ix3 0 0 x)) * Ideal.ofBits .f32 0x34200000#32 = loss Z v ix0 := by
  pointwise [loss, kpart]
  have hs : (∑ n : Fin 32, ∑ x : Fin 64, ∑ p : Fin 4096, (q n (ix2 p x) - f n (ix2 p x)) * (q n (ix2 p x) - f n (ix2 p x)))
      = ∑ n : Fin 32, ∑ p : Fin 4096, ∑ x : Fin 64,
          (v (ix2 ⟨n.1 * 4096 + p.1, by omega⟩ x) - Z (ix3 n p x)) * (v (ix2 ⟨n.1 * 4096 + p.1, by omega⟩ x) - Z (ix3 n p x)) := by
    refine Finset.sum_congr rfl fun n _ => ?_
    rw [Finset.sum_comm]
    refine Finset.sum_congr rfl fun p _ => Finset.sum_congr rfl fun x _ => ?_
    rw [hf, hq n p x ⟨n.1 * 4096 + p.1, by omega⟩ rfl]
  rw [hs]
  exact scaled _ (Finset.sum_nonneg fun _ _ => Finset.sum_nonneg fun _ _ => Finset.sum_nonneg fun _ _ => sq_nonneg' _)

end Cert.KernelIdeal.Value
-- ==== Proof.Images.lean ====
/- What the kernel computes for each image, in terms of the arguments: its vectors are the reference's encoder output,
   its code numbers and chosen codes the reference's, and its reconstruction the reference's decoder of the chosen codes. -/
module

public import proofs.«01_k».proof.Proof.KernelArrays
public import proofs.«01_k».proof.Proof.WeightsMore
public import proofs.«01_k».proof.Proof.Stages
public import proofs.«01_k».proof.Proof.Codebook
public import proofs.«01_k».proof.Proof.Loss

@[expose] public section

set_option maxRecDepth 16384

noncomputable section

namespace Cert.KernelIdeal.Value

open Idealize.ShloMosaic Idealize.ShloMosaic.TcCoe Idealize.SL.Sem Cert.ReferenceIdeal.Value
open Cert.KernelIdeal Cert.KernelIdeal.Gen

variable (m : (ℓ : Loc nD τ sig) → Buf (Elt Ideal) ℓ) (c : Dev nD)

/-- The reference's encoder output on the kernel's arguments. -/
def zOf : FVec Ideal Cert.ReferenceIdeal.S32x4096x64 .f32 :=
  encoded (A0 m c) (A1 m c) (A2 m c) (A3 m c) (A4 m c) (A5 m c) (A6 m c) (A7 m c) (A8 m c) (A9 m c) (A10 m c)

/-- The first layer of an image. -/
theorem img_z1 (n : Fin 32) : Pairs (kz1 (slab m c n) (V m c main_v82) (V m c main_v8)) (enc1 (A0 m c) (A1 m c) (A2 m c)) n :=
  kz1_eq (fun r p q h => w_x m c n r p q h) (fun e j i o h => w_w1 m c e j i o h) (fun e i o h => w_b1 m c e i o h)

/-- The second layer of an image. -/
theorem img_z2 (n : Fin 32) (p : Fin 4096) (o : Fin 128) :
    kz2 (kz1 (slab m c n) (V m c main_v82) (V m c main_v8)) (V m c main_v83) (V m c main_v11) (ix2 p o)
      = enc2 (A3 m c) (A4 m c) (enc1 (A0 m c) (A1 m c) (A2 m c)) (ix3 n o p) :=
  kz2_eq (img_z1 m c n) (fun k i o r h => w_w2 m c k i o r h) (fun o => w_b2 m c o) p o

/-- Any image's third layer. -/
theorem img_z3 {n : Fin 32} {z : FVec Ideal S4096x128 .bf16} {Z : FVec Ideal Cert.ReferenceIdeal.S32x128x4096 .f32}
    (hz : ∀ p o, z (ix2 p o) = Z (ix3 n o p)) (p : Fin 4096) (o : Fin 128) :
    kz3 z (V m c main_v84) (V m c main_v14) (ix2 p o) = enc3 (A5 m c) (A6 m c) Z (ix3 n o p) :=
  kz3_eq hz (fun k i o r h => w_w3 m c k i o r h) (fun o => w_b3 m c o) p o

/-- Any image's fourth layer. -/
theorem img_z4 {n : Fin 32} {z : FVec Ideal S4096x128 .bf16} {Z : FVec Ideal Cert.ReferenceIdeal.S32x128x4096 .f32}
    (hz : ∀ p o, z (ix2 p o) = Z (ix3 n o p)) (p : Fin 4096) (o : Fin 64) :
    kz4 z (V m c main_v85) (V m c main_v17) (ix2 p o) = enc4 (A7 m c) (A8 m c) Z (ix3 n o p) :=
  kz4_eq hz (fun i o => w_w4 m c i o) (fun o => w_b4 m c o) p o

/-- Any image's projection. -/
theorem img_flat {n : Fin 32} {z : FVec Ideal S4096x64 .bf16} {Z : FVec Ideal Cert.ReferenceIdeal.S32x64x4096 .f32}
    (hz : ∀ p o, z (ix2 p o) = Z (ix3 n o p)) (p : Fin 4096) (o : Fin 64) :
    kflat z (V m c main_v86) (V m c main_v20) (ix2 p o) = inputs (A9 m c) (A10 m c) Z (ix3 n p o) :=
  kflat_eq hz (fun i o => w_wp m c i o) (fun o => w_bp m c o) p o

/-- An image's vectors are the encoder's. -/
theorem vec_eq (n : Fin 32) (p : Fin 4096) (x : Fin 64) : fK m c n (ix2 p x) = zOf m c (ix3 n p x) := by
  unfold fK kvec zOf encoded
  exact img_flat m c (img_z4 m c (img_z3 m c (img_z2 m c n))) p x

/-- An image's code numbers and chosen codes are the reference's. -/
theorem img_codes (n : Fin 32) (p : Fin 4096) (j : Fin 131072) (hj : j.1 = n * 4096 + p) :
    numK m c n (ix2 p 0) = codes (A11 m c) (zOf m c) (ix1 j)
      ∧ ∀ o, qK m c n (ix2 p o) = vectors (A11 m c) (zOf m c) (ix2 j o) :=
  chosen_eq _ _ _ _ (A11 m c) (zOf m c) n (vec_eq m c n) (fun x k => w_et m c x k) (fun k => w_e2 m c k) (fun k x => w_cb m c k x) p j hj

/-- Adding and taking away a finite number leaves the rest. -/
theorem add_sub_of_real {a : EReal} (h0 : a ≠ ⊥) (h1 : a ≠ ⊤) (b : EReal) : a + (b - a) = b := by
  lift a to ℝ using ⟨h1, h0⟩
  induction b with
  | bot => simp
  | top => simp
  | coe b => norm_cast; ring

/-- Where the encoder's output is finite, the straight-through code vectors are the chosen codes. -/
theorem quant_eq (hz : ∀ n p x, zOf m c (ix3 n p x) ≠ ⊥ ∧ zOf m c (ix3 n p x) ≠ ⊤) (n : Fin 32) (p : Fin 4096) (o : Fin 64) :
    qK m c n (ix2 p o) = quant (zOf m c) (vectors (A11 m c) (zOf m c)) (ix3 n o p) := by
  rw [(img_codes m c n p ⟨n.1 * 4096 + p.1, by omega⟩ rfl).2 o]
  pointwise [quant]
  exact (add_sub_of_real (hz n p o).1 (hz n p o).2 _).symm

/-- An image's reconstruction is the reference's. -/
theorem dec_eq (hz : ∀ n p x, zOf m c (ix3 n p x) ≠ ⊥ ∧ zOf m c (ix3 n p x) ≠ ⊤) (n : Fin 32) (r : Fin 4) (p : Fin 4096)
    (q : Fin 16384) (hq : q.1 = 4 * p + r) :
    yK m c n (ix3 0 r p)
      = decoded (A11 m c) (A12 m c) (A13 m c) (A14 m c) (A15 m c) (A16 m c) (A17 m c) (zOf m c) (ix3 n 0 q) :=
  ky_eq (kg_eq (kh_eq (quant_eq m c hz n) (fun k i o r h => w_wd1 m c k i o r h) (fun o => w_bd1 m c o))
    (fun e j i o r s h h' => w_wt1 m c e j i o r s h h') (fun e i o h => w_bt1 m c e i o h))
    (fun r j i x h => w_wt2 m c r j i x h) (fun r => w_bt2 m c r) r p q hq

/-- The images' loss parts, added up and scaled, are the reference's loss. -/
theorem loss_total : (∑ n : Fin 32, ∑ x : Fin 64, lArr m c (ix3 n 0 x)) * Ideal.ofBits .f32 0x34200000#32
    = loss (zOf m c) (vectors (A11 m c) (zOf m c)) ix0 :=
  loss_eq (fK m c) (qK m c) (zOf m c) _ (vec_eq m c) fun n p x j hj => (img_codes m c n p j hj).2 x

end Cert.KernelIdeal.Value
-- ==== Proof.Finite.lean ====
/- Finite arguments make a finite encoder output. -/
module

public import proofs.«01_k».proof.Proof.RefValue
public import Idealize.ShloMosaic.Lib.Pointwise
public import Idealize.ShloMosaic.PureOps.Ideal.Laws

@[expose] public section

set_option maxRecDepth 16384

noncomputable section

namespace Cert.ReferenceIdeal.Value

open Idealize.ShloMosaic Idealize.ShloMosaic.TcCoe

/-- A finite value. -/
def IsReal (a : EReal) : Prop := a ≠ ⊥ ∧ a ≠ ⊤

/-- Every finite value is a real. -/
theorem IsReal.real {a : EReal} (h : IsReal a) : ∃ r : ℝ, a = r := by
  obtain ⟨h0, h1⟩ := h
  lift a to ℝ using ⟨h1, h0⟩
  exact ⟨a, rfl⟩

/-- A real is finite. -/
theorem IsReal.coe (r : ℝ) : IsReal (r : EReal) := ⟨EReal.coe_ne_bot r, EReal.coe_ne_top r⟩

/-- Zero is finite. -/
theorem IsReal.zero : IsReal 0 := IsReal.coe 0

/-- Sums of two are finite. -/
theorem IsReal.add {a b : EReal} (ha : IsReal a) (hb : IsReal b) : IsReal (a + b) := by
  obtain ⟨r, rfl⟩ := ha.real
  obtain ⟨s, rfl⟩ := hb.real
  exact_mod_cast IsReal.coe (r + s)

/-- Products are finite. -/
theorem IsReal.mul {a b : EReal} (ha : IsReal a) (hb : IsReal b) : IsReal (a * b) := by
  obtain ⟨r, rfl⟩ := ha.real
  obtain ⟨s, rfl⟩ := hb.real
  exact_mod_cast IsReal.coe (r * s)

/-- The larger of two is finite. -/
theorem IsReal.max {a b : EReal} (ha : IsReal a) (hb : IsReal b) : IsReal (max a b) := by
  rcases max_choice a b with h | h <;> rw [h] <;> assumption

/-- Sums are finite. -/
theorem IsReal.sum {ι : Type} (s : Finset ι) {f : ι → EReal} (h : ∀ i, IsReal (f i)) : IsReal (∑ i ∈ s, f i) := by
  classical
  induction s using Finset.induction_on with
  | empty => simpa using IsReal.zero
  | insert i s hi ih => rw [Finset.sum_insert hi]; exact (h i).add ih

/-- What holds at every triple of coordinates holds at every index. -/
theorem all_ix3 {l1 l2 l3 : ℕ} {P : (⟨3, ![l1, l2, l3]⟩ : Shape).Idx → Prop} (h : ∀ a b c, P (ix3 a b c)) (i) : P i := by
  rw [eq_ix3 i]
  exact h _ _ _

/-- The first layer of finite arrays is finite. -/
theorem enc1_real (x : FVec Ideal S32x1x16384 .f32) (w : FVec Ideal S64x1x4 .f32) (b : FVec Ideal S64 .f32)
    (hz : ∀ i, IsReal (x i)) (hw : ∀ i, IsReal (w i)) (hb : ∀ i, IsReal (b i)) : ∀ i, IsReal (enc1 x w b i) := by
  refine all_ix3 fun n o p => ?_
  pointwise [enc1]
  repeat' first | split | with_reducible exact hz _ | with_reducible exact hw _ | with_reducible exact hb _ | with_reducible exact IsReal.zero | with_reducible apply IsReal.add | with_reducible apply IsReal.mul | with_reducible apply IsReal.max | (with_reducible apply IsReal.sum; intro _)

/-- The second layer of finite arrays is finite. -/
theorem enc2_real (w : FVec Ideal S128x64x4 .f32) (b : FVec Ideal S128 .f32) (z : FVec Ideal S32x64x8192 .f32)
    (hz : ∀ i, IsReal (z i)) (hw : ∀ i, IsReal (w i)) (hb : ∀ i, IsReal (b i)) : ∀ i, IsReal (enc2 w b z i) := by
  refine all_ix3 fun n o p => ?_
  pointwise [enc2]
  repeat' first | split | with_reducible exact hz _ | with_reducible exact hw _ | with_reducible exact hb _ | with_reducible exact IsReal.zero | with_reducible apply IsReal.add | with_reducible apply IsReal.mul | with_reducible apply IsReal.max | (with_reducible apply IsReal.sum; intro _)

/-- The third layer of finite arrays is finite. -/
theorem enc3_real (w : FVec Ideal S128x128x3 .f32) (b : FVec Ideal S128 .f32) (z : FVec Ideal S32x128x4096 .f32)
    (hz : ∀ i, IsReal (z i)) (hw : ∀ i, IsReal (w i)) (hb : ∀ i, IsReal (b i)) : ∀ i, IsReal (enc3 w b z i) := by
  refine all_ix3 fun n o p => ?_
  pointwise [enc3]
  repeat' first | split | with_reducible exact hz _ | with_reducible exact hw _ | with_reducible exact hb _ | with_reducible exact IsReal.zero | with_reducible apply IsReal.add | with_reducible apply IsReal.mul | with_reducible apply IsReal.max | (with_reducible apply IsReal.sum; intro _)

/-- The fourth layer of finite arrays is finite. -/
theorem enc4_real (w : FVec Ideal S64x128x1 .f32) (b : FVec Ideal S64 .f32) (z : FVec Ideal S32x128x4096 .f32)
    (hz : ∀ i, IsReal (z i)) (hw : ∀ i, IsReal (w i)) (hb : ∀ i, IsReal (b i)) : ∀ i, IsReal (enc4 w b z i) := by
  refine all_ix3 fun n o p => ?_
  pointwise [enc4]
  repeat' first | split | with_reducible exact hz _ | with_reducible exact hw _ | with_reducible exact hb _ | with_reducible exact IsReal.zero | with_reducible apply IsReal.add | with_reducible apply IsReal.mul | with_reducible apply IsReal.max | (with_reducible apply IsReal.sum; intro _)

/-- The projection of finite arrays is finite. -/
theorem inputs_real (w : FVec Ideal S64x64x1 .f32) (b : FVec Ideal S64 .f32) (z : FVec Ideal S32x64x4096 .f32)
    (hz : ∀ i, IsReal (z i)) (hw : ∀ i, IsReal (w i)) (hb : ∀ i, IsReal (b i)) : ∀ i, IsReal (inputs w b z i) := by
  refine all_ix3 fun n o p => ?_
  pointwise [inputs]
  repeat' first | split | with_reducible exact hz _ | with_reducible exact hw _ | with_reducible exact hb _ | with_reducible exact IsReal.zero | with_reducible apply IsReal.add | with_reducible apply IsReal.mul | with_reducible apply IsReal.max | (with_reducible apply IsReal.sum; intro _)

/-- Finite arguments make a finite encoder output. -/
theorem encoded_real (x : FVec Ideal S32x1x16384 .f32) (w1 : FVec Ideal S64x1x4 .f32) (b1 : FVec Ideal S64 .f32)
    (w2 : FVec Ideal S128x64x4 .f32) (b2 : FVec Ideal S128 .f32) (w3 : FVec Ideal S128x128x3 .f32) (b3 : FVec Ideal S128 .f32)
    (w4 : FVec Ideal S64x128x1 .f32) (b4 : FVec Ideal S64 .f32) (wp : FVec Ideal S64x64x1 .f32) (bp : FVec Ideal S64 .f32)
    (hx : ∀ i, IsReal (x i)) (hw1 : ∀ i, IsReal (w1 i)) (hb1 : ∀ i, IsReal (b1 i)) (hw2 : ∀ i, IsReal (w2 i)) (hb2 : ∀ i, IsReal (b2 i))
    (hw3 : ∀ i, IsReal (w3 i)) (hb3 : ∀ i, IsReal (b3 i)) (hw4 : ∀ i, IsReal (w4 i)) (hb4 : ∀ i, IsReal (b4 i))
    (hwp : ∀ i, IsReal (wp i)) (hbp : ∀ i, IsReal (bp i)) : ∀ i, IsReal (encoded x w1 b1 w2 b2 w3 b3 w4 b4 wp bp i) :=
  inputs_real _ _ _ (enc4_real _ _ _ (enc3_real _ _ _ (enc2_real _ _ _ (enc1_real _ _ _ hx hw1 hb1) hw2 hb2) hw3 hb3) hw4 hb4) hwp hbp

end Cert.ReferenceIdeal.Value
-- ==== Proof.PreReal.lean ====
/- What the precondition says: every entry of the encoder's arguments is finite. -/
module

public import proofs.«01_k».proof.Proof.PreFacts
public import proofs.«01_k».proof.Proof.Finite
public import Idealize.ShloMosaic.Lib.ReduceAll
public import Idealize.ShloMosaic.Lib.Affine

@[expose] public section

set_option maxRecDepth 16384

noncomputable section

namespace Cert.Pre_finite_encoder.Value

open Idealize.ShloMosaic Idealize.ShloMosaic.TcCoe Cert.Pre_finite_encoder Cert.ReferenceIdeal.Value

/-- There is one index of rank zero. -/
instance : Subsingleton S_.Idx := ⟨fun _ _ => funext fun a => a.elim0⟩

/-- An entry whose size is below the top is finite. -/
theorem real_of_lt (a : EReal) (h : FloatOps.cmpf (F := Ideal) (φ := .f32) .olt (FloatOps.absf (F := Ideal) (φ := .f32) a) (FloatOps.ofBits (F := Ideal) .f32 0x7F800000#32) = 1#1) :
    IsReal a := by
  have hi : FloatOps.ofBits (F := Ideal) .f32 0x7F800000#32 = (⊤ : EReal) := by
    show Ideal.ofBits .f32 0x7F800000#32 = ⊤
    simp [Ideal.ofBits, Ideal.ieee]
  rw [hi] at h
  have h' : max a (-a) < ⊤ := by
    by_contra hn
    have h0 : FloatOps.cmpf (F := Ideal) (φ := .f32) .olt (FloatOps.absf (F := Ideal) (φ := .f32) a) (⊤ : EReal) = 0#1 := by
      show BitVec.ofBool (decide (max a (-a) < ⊤)) = 0#1
      rw [decide_eq_false hn]
      rfl
    rw [h0] at h
    exact absurd h (by decide)
  obtain ⟨h1, h2⟩ := max_lt_iff.mp h'
  exact ⟨fun e => by rw [e] at h2; simp at h2, h1.ne⟩

/-- An array all of whose entries pass the test is finite. -/
theorem real_of_all {s : Shape} {axes : List (Fin s.rank)} (a : FVec Ideal s .f32) (hb : S_.BroadcastsInDim s ![]) (h : s.ReducesTo axes S_) (hu : 0 < S_.numel)
    (e : Host.reduce IntOp.andi (cmpf .olt (Host.absf a) (broadcastInDim s ![] hb (constant S_ .f32 0x7F800000#32))) (constantI S_ 1 1#1) h hu ix0 = 1#1) :
    ∀ i, IsReal (a i) := fun i => by
  have := Host.reduce_andi_all _ _ h hu ix0 e i
  exact real_of_lt (a i) this

/-- Bits that meet in a one are both ones. -/
theorem both {p q : IVec S_ 1} (h : andi p q ix0 = 1#1) : p ix0 = 1#1 ∧ q ix0 = 1#1 := IntOp.andi_eq_one.mp h

/-- Under the precondition the encoder's arguments are finite. -/
theorem pre_real (a0 : FVec Ideal S32x1x16384 .f32) (a1 : FVec Ideal S64x1x4 .f32) (a2 : FVec Ideal S64 .f32) (a3 : FVec Ideal S128x64x4 .f32) (a4 : FVec Ideal S128 .f32) (a5 : FVec Ideal S128x128x3 .f32) (a6 : FVec Ideal S128 .f32) (a7 : FVec Ideal S64x128x1 .f32) (a8 : FVec Ideal S64 .f32) (a9 : FVec Ideal S64x64x1 .f32) (a10 : FVec Ideal S64 .f32) (a11 : FVec Ideal S512x64 .f32) (a12 : FVec Ideal S128x64x3 .f32) (a13 : FVec Ideal S128 .f32) (a14 : FVec Ideal S128x64x4 .f32) (a15 : FVec Ideal S64 .f32) (a16 : FVec Ideal S64x1x4 .f32) (a17 : FVec Ideal S1 .f32)
    (h : fn (F := Ideal) a0 a1 a2 a3 a4 a5 a6 a7 a8 a9 a10 a11 a12 a13 a14 a15 a16 a17 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) := by
  have e := congrFun h ix0
  dsimp only [fn, fn_part1, fn_part2, fn_part3] at e
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨real_of_all a0 _ _ _ e0, real_of_all a1 _ _ _ e1, real_of_all a2 _ _ _ e2, real_of_all a3 _ _ _ e3, real_of_all a4 _ _ _ e4, real_of_all a5 _ _ _ e5, real_of_all a6 _ _ _ e6, real_of_all a7 _ _ _ e7, real_of_all a8 _ _ _ e8, real_of_all a9 _ _ _ e9, real_of_all a10 _ _ _ e10⟩

end Cert.Pre_finite_encoder.Value
-- ==== Proof.Tail.lean ====
/- The kernel's results: what the host's last operations make of the arrays the launch leaves. -/
module

public import proofs.«01_k».proof.Proof.Images
public import proofs.«01_k».proof.Proof.PreReal

@[expose] public section

set_option maxRecDepth 16384

noncomputable section

namespace Cert.KernelIdeal.Value

open Idealize.ShloMosaic Idealize.ShloMosaic.TcCoe Idealize.SL.Sem Cert.ReferenceIdeal.Value
open Cert.KernelIdeal Cert.KernelIdeal.Gen

/-- All loss parts added up and scaled. -/
def lossTail (l : FVec Ideal S32x1x64 .f32) : FVec Ideal S_ .f32 :=
  mulf (Host.reduceAdd l (constant S_ .f32 0x00000000#32) reducesTo_S32x1x64_S_d0_1_2 h_S_) (constant S_ .f32 0x34200000#32)

/-- The reconstructions, each image's positions in order. -/
def yTail (y : FVec Ideal S32x4x4096 .f32) : FVec Ideal S32x1x16384 .f32 :=
  shapeCast S32x1x16384 (transpose S32x4096x4 [0, 2, 1] y transposes_S32x4x4096_S32x4096x4_0_2_1) shapeCasts_S32x4096x4_S32x1x16384

/-- The code numbers as one column. -/
def codeTail (i : IVec S32x1x4096 32) : IVec S131072x1 32 := shapeCast S131072x1 i shapeCasts_S32x1x4096_S131072x1

/-- What holds at every pair of coordinates holds at every index. -/
theorem all_ix2 {l1 l2 : ℕ} {P : (⟨2, ![l1, l2]⟩ : Shape).Idx → Prop} (h : ∀ a b, P (ix2 a b)) (i) : P i := by
  rw [eq_ix2 i]
  exact h _ _

/-- The column's entry `j` is entry `j % 4096` of image `j / 4096`. -/
theorem codeTail_apply (i : IVec S32x1x4096 32) (j : Fin 131072) :
    codeTail i (ix2 j 0) = i (ix3 ⟨j.1 / 4096, by omega⟩ 0 ⟨j.1 % 4096, by omega⟩) := by
  pointwise [codeTail]

/-- A row of numbers. -/
theorem krow_apply (i : IVec S4096x1 32) (p : Fin 4096) : krow i (ix3 0 0 p) = i (ix2 p 0) := by
  pointwise [krow]

/-- A column of codes. -/
theorem column_apply (v : IVec Cert.ReferenceIdeal.S131072 32) (j : Fin 131072) : column v (ix2 j 0) = v (ix1 j) := by
  pointwise [column]

/-- An image's position `q` is entry `q / 4` of its row `q % 4`. -/
theorem yTail_apply (y : FVec Ideal S32x4x4096 .f32) (n : Fin 32) (q : Fin 16384) :
    yTail y (ix3 n 0 q) = y (ix3 n ⟨q.1 % 4, by omega⟩ ⟨q.1 / 4, by omega⟩) := by
  pointwise [yTail]

/-- The sum, scaled. -/
theorem lossTail_apply (l : FVec Ideal S32x1x64 .f32) :
    lossTail l ix0 = (∑ n : Fin 32, ∑ x : Fin 64, l (ix3 n 0 x)) * Ideal.ofBits .f32 0x34200000#32 := by
  pointwise [lossTail]
  exact congrArg (· * Ideal.ofBits .f32 0x34200000#32) (Finset.sum_congr rfl fun n _ => Fintype.sum_unique _)

/-- The loss's buffer after the last operations. -/
theorem tail_loss (W : Valuation τ sig (Elt Ideal)) :
    (StableHlo.after hostOps1 W (main_v93 : DevRef τ sig) : FVec Ideal S_ .f32)
      = lossTail (W (main_v91_2 : DevRef τ sig)) := rfl

/-- The reconstruction's buffer after the last operations. -/
theorem tail_y (W : Valuation τ sig (Elt Ideal)) :
    (StableHlo.after hostOps1 W (main_v95 : DevRef τ sig) : FVec Ideal S32x1x16384 .f32)
      = yTail (W (main_v91_0 : DevRef τ sig)) := rfl

/-- The code numbers' buffer after the last operations. -/
theorem tail_codes (W : Valuation τ sig (Elt Ideal)) :
    (StableHlo.after hostOps1 W (main_v96 : DevRef τ sig) : IVec S131072x1 32)
      = codeTail (W (main_v91_1 : DevRef τ sig)) := rfl

variable (m : (ℓ : Loc nD τ sig) → Buf (Elt Ideal) ℓ) (c : Dev nD)

/-- What the last operations start from. -/
abbrev left : Valuation τ sig (Elt Ideal) :=
  Pipeline.withArrays (cfgs 0).spec c (V0 m c) fun w => (dats m 0 c).arrAt w (cfgs 0).N

/-- No two windows share an array. -/
theorem arr_inj : Function.Injective (Pipeline.arrRef spec0) := by decide +kernel

/-- The launch leaves the reconstructions, -/
theorem left_y : left m c (main_v91_0 : DevRef τ sig) = yArr m c :=
  (Pipeline.withArrays_arr spec0 arr_inj c (V0 m c) _ 20).trans (final20 m c)
/-- the code numbers, -/
theorem left_codes : left m c (main_v91_1 : DevRef τ sig) = iArr m c :=
  (Pipeline.withArrays_arr spec0 arr_inj c (V0 m c) _ 21).trans (final21 m c)
/-- and the loss parts. -/
theorem left_loss : left m c (main_v91_2 : DevRef τ sig) = lArr m c :=
  (Pipeline.withArrays_arr spec0 arr_inj c (V0 m c) _ 22).trans (final22 m c)

/-- The launch's loss parts give the reference's loss. -/
theorem loss_out : lossTail (lArr m c) = loss (zOf m c) (vectors (A11 m c) (zOf m c)) := by
  funext i
  obtain rfl : i = ix0 := funext fun a => a.elim0
  exact (lossTail_apply _).trans (loss_total m c)

/-- An entry of the launch's code numbers. -/
theorem iArr_apply (n : Fin 32) (p : Fin 4096) : iArr m c (ix3 n 0 p) = numK m c n (ix2 p 0) := by
  unfold iArr
  exact krow_apply _ p

/-- The launch's code numbers give the reference's. -/
theorem codes_out : codeTail (iArr m c) = column (codes (A11 m c) (zOf m c)) := by
  refine funext (all_ix2 fun j e => ?_)
  obtain rfl : e = (0 : Fin 1) := Subsingleton.elim _ _
  rw [codeTail_apply, column_apply, iArr_apply]
  exact (img_codes m c ⟨j.1 / 4096, by omega⟩ ⟨j.1 % 4096, by omega⟩ j (by dsimp only; omega)).1

/-- The launch's reconstructions give the reference's wherever the encoder's output is finite. -/
theorem y_out (hz : ∀ n p x, zOf m c (ix3 n p x) ≠ ⊥ ∧ zOf m c (ix3 n p x) ≠ ⊤) :
    yTail (yArr m c) = decoded (A11 m c) (A12 m c) (A13 m c) (A14 m c) (A15 m c) (A16 m c) (A17 m c) (zOf m c) := by
  refine funext (all_ix3 fun n e q => ?_)
  obtain rfl : e = (0 : Fin 1) := Subsingleton.elim _ _
  rw [yTail_apply]
  exact dec_eq m c hz n ⟨q.1 % 4, by omega⟩ ⟨q.1 / 4, by omega⟩ q (by dsimp only; omega)

end Cert.KernelIdeal.Value
-- ==== Proof.Results.lean ====
/- The two programs' results: each run ends with the reference's three arrays. -/
module

public import proofs.«01_k».proof.Defs
public import proofs.«01_k».proof.Proof.Tail
public import Idealize.ShloMosaic.Lib.Claim

@[expose] public section

set_option maxRecDepth 16384

noncomputable section

namespace Cert.KernelIdeal.Value

open Idealize.ShloMosaic Idealize.ShloMosaic.TcCoe Idealize.SL.Sem Cert.ReferenceIdeal.Value
open Cert.KernelIdeal Cert.KernelIdeal.Gen

variable (m : (ℓ : Loc nD τ sig) → Buf (Elt Ideal) ℓ) (c : Dev nD)

/-- The loss, in terms of the kernel's arguments. -/
def lossOf : FVec Ideal S_ .f32 := loss (zOf m c) (vectors (A11 m c) (zOf m c))

/-- The reconstruction, in terms of the kernel's arguments. -/
def yOf : FVec Ideal S32x1x16384 .f32 :=
  decoded (A11 m c) (A12 m c) (A13 m c) (A14 m c) (A15 m c) (A16 m c) (A17 m c) (zOf m c)

/-- The code numbers, in terms of the kernel's arguments. -/
def codesOf : IVec S131072x1 32 := column (codes (A11 m c) (zOf m c))

/-- Under the precondition the encoder's output is finite. -/
theorem z_real (h : Cert.Pre_KernelIdeal_finite_encoder (hPre_finite_encoder := Cert.Pre_finite_encoder.Value.facts) m) (n : Fin 32) (p : Fin 4096) (x : Fin 64) :
    zOf m c (ix3 n p x) ≠ ⊥ ∧ zOf m c (ix3 n p x) ≠ ⊤ := by
  obtain ⟨h0, h1, h2, h3, h4, h5, h6, h7, h8, h9, h10⟩ :=
    Cert.Pre_finite_encoder.Value.pre_real _ _ _ _ _ _ _ _ _ _ _ _ _ _ _ _ _ _ (h c)
  exact encoded_real _ _ _ _ _ _ _ _ _ _ _ h0 h1 h2 h3 h4 h5 h6 h7 h8 h9 h10 _

/-- The kernel's run ends with the three results. -/
theorem kernel_results (h : Cert.Pre_KernelIdeal_finite_encoder (hPre_finite_encoder := Cert.Pre_finite_encoder.Value.facts) m) (ρ : Dev nD → PrngReg) :
    θ_run defs (onTc (τ := τ) (main (F := Ideal))) ⟨m, fun _ => 0, ρ⟩ (fun r => ∀ c : Dev nD,
      r.2.mem ((c.tc : Thread nD τ).loc main_v93) = lossOf m c
      ∧ r.2.mem ((c.tc : Thread nD τ).loc main_v95) = yOf m c
      ∧ r.2.mem ((c.tc : Thread nD τ).loc main_v96) = codesOf m c) := by
  refine θ_run_mono (run_main m ρ) fun r hr c => ⟨?_, ?_, ?_⟩
  · exact ((hr c).2 main_v93 (Pipeline.mem_restRefs_of main_v93 (by decide) (by decide))).trans
      ((tail_loss (left m c)).trans ((congrArg lossTail (left_loss m c)).trans (loss_out m c)))
  · exact ((hr c).2 main_v95 (Pipeline.mem_restRefs_of main_v95 (by decide) (by decide))).trans
      ((tail_y (left m c)).trans ((congrArg yTail (left_y m c)).trans (y_out m c (z_real m c h))))
  · exact ((hr c).2 main_v96 (Pipeline.mem_restRefs_of main_v96 (by decide) (by decide))).trans
      ((tail_codes (left m c)).trans ((congrArg codeTail (left_codes m c)).trans (codes_out m c)))

/-- The two memories hold the same arguments. -/
def Same (m' : (ℓ : Loc Cert.ReferenceIdeal.nD Cert.ReferenceIdeal.τ Cert.ReferenceIdeal.sig) → Buf (Elt Ideal) ℓ) : Prop :=
  ∀ c : Dev nD, m' ((c.tc : Thread Cert.ReferenceIdeal.nD Cert.ReferenceIdeal.τ).loc Cert.ReferenceIdeal.main_arg0) = m ((c.tc : Thread nD τ).loc main_arg0)
    ∧ m' ((c.tc : Thread Cert.ReferenceIdeal.nD Cert.ReferenceIdeal.τ).loc Cert.ReferenceIdeal.main_arg1) = m ((c.tc : Thread nD τ).loc main_arg1)
    ∧ m' ((c.tc : Thread Cert.ReferenceIdeal.nD Cert.ReferenceIdeal.τ).loc Cert.ReferenceIdeal.main_arg2) = m ((c.tc : Thread nD τ).loc main_arg2)
    ∧ m' ((c.tc : Thread Cert.ReferenceIdeal.nD Cert.ReferenceIdeal.τ).loc Cert.ReferenceIdeal.main_arg3) = m ((c.tc : Thread nD τ).loc main_arg3)
    ∧ m' ((c.tc : Thread Cert.ReferenceIdeal.nD Cert.ReferenceIdeal.τ).loc Cert.ReferenceIdeal.main_arg4) = m ((c.tc : Thread nD τ).loc main_arg4)
    ∧ m' ((c.tc : Thread Cert.ReferenceIdeal.nD Cert.ReferenceIdeal.τ).loc Cert.ReferenceIdeal.main_arg5) = m ((c.tc : Thread nD τ).loc main_arg5)
    ∧ m' ((c.tc : Thread Cert.ReferenceIdeal.nD Cert.ReferenceIdeal.τ).loc Cert.ReferenceIdeal.main_arg6) = m ((c.tc : Thread nD τ).loc main_arg6)
    ∧ m' ((c.tc : Thread Cert.ReferenceIdeal.nD Cert.ReferenceIdeal.τ).loc Cert.ReferenceIdeal.main_arg7) = m ((c.tc : Thread nD τ).loc main_arg7)
    ∧ m' ((c.tc : Thread Cert.ReferenceIdeal.nD Cert.ReferenceIdeal.τ).loc Cert.ReferenceIdeal.main_arg8) = m ((c.tc : Thread nD τ).loc main_arg8)
    ∧ m' ((c.tc : Thread Cert.ReferenceIdeal.nD Cert.ReferenceIdeal.τ).loc Cert.ReferenceIdeal.main_arg9) = m ((c.tc : Thread nD τ).loc main_arg9)
    ∧ m' ((c.tc : Thread Cert.ReferenceIdeal.nD Cert.ReferenceIdeal.τ).loc Cert.ReferenceIdeal.main_arg10) = m ((c.tc : Thread nD τ).loc main_arg10)
    ∧ m' ((c.tc : Thread Cert.ReferenceIdeal.nD Cert.ReferenceIdeal.τ).loc Cert.ReferenceIdeal.main_arg11) = m ((c.tc : Thread nD τ).loc main_arg11)
    ∧ m' ((c.tc : Thread Cert.ReferenceIdeal.nD Cert.ReferenceIdeal.τ).loc Cert.ReferenceIdeal.main_arg12) = m ((c.tc : Thread nD τ).loc main_arg12)
    ∧ m' ((c.tc : Thread Cert.ReferenceIdeal.nD Cert.ReferenceIdeal.τ).loc Cert.ReferenceIdeal.main_arg13) = m ((c.tc : Thread nD τ).loc main_arg13)
    ∧ m' ((c.tc : Thread Cert.ReferenceIdeal.nD Cert.ReferenceIdeal.τ).loc Cert.ReferenceIdeal.main_arg14) = m ((c.tc : Thread nD τ).loc main_arg14)
    ∧ m' ((c.tc : Thread Cert.ReferenceIdeal.nD Cert.ReferenceIdeal.τ).loc Cert.ReferenceIdeal.main_arg15) = m ((c.tc : Thread nD τ).loc main_arg15)
    ∧ m' ((c.tc : Thread Cert.ReferenceIdeal.nD Cert.ReferenceIdeal.τ).loc Cert.ReferenceIdeal.main_arg16) = m ((c.tc : Thread nD τ).loc main_arg16)
    ∧ m' ((c.tc : Thread Cert.ReferenceIdeal.nD Cert.ReferenceIdeal.τ).loc Cert.ReferenceIdeal.main_arg17) = m ((c.tc : Thread nD τ).loc main_arg17)

/-- Buffers that hold the kernel's encoder arguments give the kernel's encoder output. -/
theorem reads_z (V : Valuation Cert.ReferenceIdeal.τ Cert.ReferenceIdeal.sig (Elt Ideal))
    (e0 : V (Proc.devRef .tc Cert.ReferenceIdeal.main_arg0) = A0 m c) (e1 : V (Proc.devRef .tc Cert.ReferenceIdeal.main_arg1) = A1 m c) (e2 : V (Proc.devRef .tc Cert.ReferenceIdeal.main_arg2) = A2 m c) (e3 : V (Proc.devRef .tc Cert.ReferenceIdeal.main_arg3) = A3 m c) (e4 : V (Proc.devRef .tc Cert.ReferenceIdeal.main_arg4) = A4 m c) (e5 : V (Proc.devRef .tc Cert.ReferenceIdeal.main_arg5) = A5 m c) (e6 : V (Proc.devRef .tc Cert.ReferenceIdeal.main_arg6) = A6 m c) (e7 : V (Proc.devRef .tc Cert.ReferenceIdeal.main_arg7) = A7 m c) (e8 : V (Proc.devRef .tc Cert.ReferenceIdeal.main_arg8) = A8 m c) (e9 : V (Proc.devRef .tc Cert.ReferenceIdeal.main_arg9) = A9 m c) (e10 : V (Proc.devRef .tc Cert.ReferenceIdeal.main_arg10) = A10 m c) :
    encodedOf V = zOf m c := by
  unfold encodedOf
  rw [e0, e1, e2, e3, e4, e5, e6, e7, e8, e9, e10]
  rfl

/-- Buffers that hold the kernel's arguments give its loss. -/
theorem reads_loss (V : Valuation Cert.ReferenceIdeal.τ Cert.ReferenceIdeal.sig (Elt Ideal)) (hz : encodedOf V = zOf m c)
    (e11 : V (Proc.devRef .tc Cert.ReferenceIdeal.main_arg11) = A11 m c) :
    StableHlo.after ops V (Proc.devRef .tc Cert.ReferenceIdeal.main_v115) = lossOf m c := by
  refine (loss_final V).trans ?_
  rw [hz, e11]
  rfl

/-- Buffers that hold the kernel's arguments give its reconstruction. -/
theorem reads_y (V : Valuation Cert.ReferenceIdeal.τ Cert.ReferenceIdeal.sig (Elt Ideal)) (hz : encodedOf V = zOf m c)
    (e11 : V (Proc.devRef .tc Cert.ReferenceIdeal.main_arg11) = A11 m c) (e12 : V (Proc.devRef .tc Cert.ReferenceIdeal.main_arg12) = A12 m c) (e13 : V (Proc.devRef .tc Cert.ReferenceIdeal.main_arg13) = A13 m c) (e14 : V (Proc.devRef .tc Cert.ReferenceIdeal.main_arg14) = A14 m c) (e15 : V (Proc.devRef .tc Cert.ReferenceIdeal.main_arg15) = A15 m c) (e16 : V (Proc.devRef .tc Cert.ReferenceIdeal.main_arg16) = A16 m c) (e17 : V (Proc.devRef .tc Cert.ReferenceIdeal.main_arg17) = A17 m c) :
    StableHlo.after ops V (Proc.devRef .tc Cert.ReferenceIdeal.main_v193) = yOf m c := by
  refine (decoded_final V).trans ?_
  rw [hz, e11, e12, e13, e14, e15, e16, e17]
  rfl

/-- Buffers that hold the kernel's arguments give its code numbers. -/
theorem reads_codes (V : Valuation Cert.ReferenceIdeal.τ Cert.ReferenceIdeal.sig (Elt Ideal)) (hz : encodedOf V = zOf m c)
    (e11 : V (Proc.devRef .tc Cert.ReferenceIdeal.main_arg11) = A11 m c) :
    StableHlo.after ops V (Proc.devRef .tc Cert.ReferenceIdeal.main_v194) = codesOf m c := by
  refine (codes_final V).trans ?_
  rw [hz, e11]
  rfl

/-- The reference's run ends with the three results. -/
theorem reference_results (m' : (ℓ : Loc Cert.ReferenceIdeal.nD Cert.ReferenceIdeal.τ Cert.ReferenceIdeal.sig) → Buf (Elt Ideal) ℓ)
    (hs : Same m m') (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩
      (fun r => ∀ c : Dev Cert.ReferenceIdeal.nD,
        r.2.mem ((c.tc : Thread Cert.ReferenceIdeal.nD Cert.ReferenceIdeal.τ).loc Cert.ReferenceIdeal.main_v115) = lossOf m c
        ∧ r.2.mem ((c.tc : Thread Cert.ReferenceIdeal.nD Cert.ReferenceIdeal.τ).loc Cert.ReferenceIdeal.main_v193) = yOf m c
        ∧ r.2.mem ((c.tc : Thread Cert.ReferenceIdeal.nD Cert.ReferenceIdeal.τ).loc Cert.ReferenceIdeal.main_v194) = codesOf m c) := by
  refine θ_run_mono (Cert.ReferenceIdeal.Value.run m' ρ) fun r hr c => ?_
  obtain ⟨e0, e1, e2, e3, e4, e5, e6, e7, e8, e9, e10, e11, e12, e13, e14, e15, e16, e17⟩ := hs c
  have hz := reads_z m c (StableHlo.launchContents m' c) e0 e1 e2 e3 e4 e5 e6 e7 e8 e9 e10
  exact ⟨(hr c Cert.ReferenceIdeal.main_v115).trans (reads_loss m c _ hz e11),
    (hr c Cert.ReferenceIdeal.main_v193).trans (reads_y m c _ hz e11 e12 e13 e14 e15 e16 e17),
    (hr c Cert.ReferenceIdeal.main_v194).trans (reads_codes m c _ hz e11)⟩

end Cert.KernelIdeal.Value
-- ==== Proof.lean ====
/- The claims about the kernel and its reference, proved.

   The three frame claims come from the two programs' runs (FrameKernel, FrameKernelIdeal, RefRun). The value
   claim puts the kernel's three results (Results.kernel_results) beside the reference's
   (Results.reference_results): both are the same arrays of the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.FrameKernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.FrameKernelIdeal
public import proofs.«01_k».proof.Proof.Gen.ReferenceIdeal
public import proofs.«01_k».proof.Proof.RefValue
public import proofs.«01_k».proof.Proof.PreFacts
public import proofs.«01_k».proof.Proof.Results
public import Idealize.ShloMosaic.Adequacy
public import Idealize.ShloMosaic.Init

@[expose] public section

set_option maxRecDepth 16384

noncomputable section

namespace Cert.Proof

open Idealize.ShloMosaic Idealize.SL.Sem Cert.Kernel

/-- Every argument of the reference keeps its contents, and no semaphore is left over. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ (c : Dev Cert.ReferenceIdeal.nD) (b : Ref Cert.ReferenceIdeal.sig .tc),
        b ∉ Cert.ReferenceIdeal.Value.written → r.2.mem ((c.tc : Thread Cert.ReferenceIdeal.nD Cert.ReferenceIdeal.τ).loc b)
          = m ((c.tc : Thread Cert.ReferenceIdeal.nD Cert.ReferenceIdeal.τ).loc b)) ∧ r.2.sem = fun _ => 0) :=
  θ_run_mono (Cert.ReferenceIdeal.Value.run m ρ) fun r h =>
    ⟨fun c b hb => (h c b).trans (Cert.ReferenceIdeal.Value.kept hb _), sem_eq_zero_of_no_sems (by decide) r.2⟩

/-- The reference's frame claim. -/
theorem quiescent_reference : Cert.quiescent_ReferenceIdeal := by
  intro m ρ _
  refine θ_run_mono (frame_reference m ρ) fun r h => ⟨fun c => ?_, h.2⟩
  refine ⟨?_, ?_, ?_, ?_, ?_, ?_, ?_, ?_, ?_, ?_, ?_, ?_, ?_, ?_, ?_, ?_, ?_, ?_⟩ <;> exact h.1 c _ (by decide)

/-- From equal arguments that meet the precondition, the kernel and the reference end with the same loss,
reconstruction and code numbers, and both keep their arguments. -/
theorem algebraic : Cert.algebraic_KernelIdeal_ReferenceIdeal_pre_finite_encoder
    (hPre_finite_encoder := Cert.Pre_finite_encoder.Value.facts) := by
  intro m g m' g' hp hs
  refine ⟨Cert.KernelIdeal.Value.lossOf m, Cert.KernelIdeal.Value.yOf m, Cert.KernelIdeal.Value.codesOf m, ?_, ?_⟩
  · refine θ_run_mono (θ_run_and (Cert.KernelIdeal.Value.kernel_results m hp g) (Cert.KernelIdeal.Gen.unchanged m g))
      fun r h c => ?_
    exact ⟨(h.1 c).1, (h.1 c).2.1, (h.1 c).2.2, h.2 c⟩
  · refine θ_run_mono (θ_run_and (Cert.KernelIdeal.Value.reference_results m m' hs g') (frame_reference m' g'))
      fun r h c => ?_
    refine ⟨(h.1 c).1, (h.1 c).2.1, (h.1 c).2.2, ?_⟩
    refine ⟨?_, ?_, ?_, ?_, ?_, ?_, ?_, ?_, ?_, ?_, ?_, ?_, ?_, ?_, ?_, ?_, ?_, ?_⟩ <;> exact h.2.1 c _ (by decide)

/-- All the claims. -/
theorem claim : Cert.Claim :=
  ⟨Cert.Kernel.Gen.facts, Cert.KernelIdeal.Gen.facts, Cert.ReferenceIdeal.Gen.facts, Cert.Pre_finite_encoder.Value.facts,
    fun m ρ _ => Cert.Kernel.Gen.frame m ρ, fun m ρ _ => Cert.KernelIdeal.Gen.frame m ρ,
    fun m ρ _ => Cert.KernelIdeal.Gen.frame m ρ, quiescent_reference, fun m ρ _ => quiescent_reference m ρ trivial,
    trivial, algebraic⟩

end Cert.Proof

end
